-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_all_pairs [hPre_finite_inputs_all_pairs : Cert.Pre_finite_inputs_all_pairs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_all_pairs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_all_pairs [hPre_finite_inputs_all_pairs : Cert.Pre_finite_inputs_all_pairs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_all_pairs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs_all_pairs [hKernelIdeal : Cert.KernelIdeal.Facts] [hPre_finite_inputs_all_pairs : Cert.Pre_finite_inputs_all_pairs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_all_pairs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs_all_pairs [hReferenceIdeal : Cert.ReferenceIdeal.Facts] [hPre_finite_inputs_all_pairs : Cert.Pre_finite_inputs_all_pairs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_all_pairs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs_all_pairs [hKernelIdeal : Cert.KernelIdeal.Facts] [hReferenceIdeal : Cert.ReferenceIdeal.Facts] [hPre_finite_inputs_all_pairs : Cert.Pre_finite_inputs_all_pairs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_all_pairs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs_all_pairs : Cert.Pre_finite_inputs_all_pairs.Facts),
    quiescent_Kernel (hKernel := hKernel)
    ∧ quiescent_KernelIdeal (hKernelIdeal := hKernelIdeal)
    ∧ quiescent_KernelIdeal_pre_finite_inputs_all_pairs (hKernelIdeal := hKernelIdeal) (hPre_finite_inputs_all_pairs := hPre_finite_inputs_all_pairs)
    ∧ quiescent_ReferenceIdeal (hReferenceIdeal := hReferenceIdeal)
    ∧ quiescent_ReferenceIdeal_pre_finite_inputs_all_pairs (hReferenceIdeal := hReferenceIdeal) (hPre_finite_inputs_all_pairs := hPre_finite_inputs_all_pairs)
    ∧ preserves_Kernel_KernelIdeal
    ∧ algebraic_KernelIdeal_ReferenceIdeal_pre_finite_inputs_all_pairs (hKernelIdeal := hKernelIdeal) (hReferenceIdeal := hReferenceIdeal) (hPre_finite_inputs_all_pairs := hPre_finite_inputs_all_pairs)
-- ==== Pre_finite_inputs_all_pairs.lean ====
abbrev S256x64x250 : Shape := ⟨3, ![256, 64, 250]⟩
abbrev S250x250 : Shape := ⟨2, ![250, 250]⟩
abbrev S250 : Shape := ⟨1, ![250]⟩
abbrev S2x4032 : Shape := ⟨2, ![2, 4032]⟩
abbrev S_ : Shape := ⟨0, ![]⟩

class Facts : Prop where
  bcast_S_S2x4032 : S_.BroadcastsInDim S2x4032 (![] : Fin 0 → Fin S2x4032.rank)
  bcast_S_S256x64x250 : S_.BroadcastsInDim S256x64x250 (![] : Fin 0 → Fin S256x64x250.rank)
  reducesTo_S256x64x250_S_d0_1_2 : S256x64x250.ReducesTo [0, 1, 2] S_
  h_S_ : 0 < S_.numel
  bcast_S_S250x250 : S_.BroadcastsInDim S250x250 (![] : Fin 0 → Fin S250x250.rank)
  reducesTo_S250x250_S_d0_1 : S250x250.ReducesTo [0, 1] S_
  bcast_S_S250 : S_.BroadcastsInDim S250 (![] : Fin 0 → Fin S250.rank)
  reducesTo_S250_S_d0 : S250.ReducesTo [0] S_
  reducesTo_S2x4032_S_d0_1 : S2x4032.ReducesTo [0, 1] S_

variable [Facts]

def fn_part1 {F : FTy → Type} [FloatOps F] (main_arg2 : FVec F S250 .f32) (main_arg3 : FVec F S250 .f32) (main_arg5 : IVec S2x4032 32) (main_v12 : IVec S2x4032 32) (main_v16 : IVec S_ 1) (main_v17 : FVec F S250x250 .f32) : IVec S_ 1 :=
  let main_cst_4 : FVec F S_ .f32 := constant S_ .f32 0x7F800000#32
  let main_v18 : FVec F S250x250 .f32 := broadcastInDim S250x250 ![] bcast_S_S250x250 main_cst_4
  let main_v19 : IVec S250x250 1 := cmpf .olt main_v17 main_v18
  let main_c_5 : IVec S_ 1 := constantI S_ 1 1#1
  let main_v20 : IVec S_ 1 := (fun x v => Host.reduce IntOp.andi x v reducesTo_S250x250_S_d0_1 h_S_) main_v19 main_c_5
  let main_v21 : IVec S_ 1 := andi main_v16 main_v20
  let main_v22 : FVec F S250 .f32 := Host.absf main_arg2
  let main_cst_6 : FVec F S_ .f32 := constant S_ .f32 0x7F800000#32
  let main_v23 : FVec F S250 .f32 := broadcastInDim S250 ![] bcast_S_S250 main_cst_6
  let main_v24 : IVec S250 1 := cmpf .olt main_v22 main_v23
  let main_c_7 : IVec S_ 1 := constantI S_ 1 1#1
  let main_v25 : IVec S_ 1 := (fun x v => Host.reduce IntOp.andi x v reducesTo_S250_S_d0 h_S_) main_v24 main_c_7
  let main_v26 : IVec S_ 1 := andi main_v21 main_v25
  let main_v27 : FVec F S250 .f32 := Host.absf main_arg3
  let main_cst_8 : FVec F S_ .f32 := constant S_ .f32 0x7F800000#32
  let main_v28 : FVec F S250 .f32 := broadcastInDim S250 ![] bcast_S_S250 main_cst_8
  let main_v29 : IVec S250 1 := cmpf .olt main_v27 main_v28
  let main_c_9 : IVec S_ 1 := constantI S_ 1 1#1
  let main_v30 : IVec S_ 1 := (fun x v => Host.reduce IntOp.andi x v reducesTo_S250_S_d0 h_S_) main_v29 main_c_9
  let main_v31 : IVec S_ 1 := andi main_v26 main_v30
  let main_v32 : IVec S2x4032 1 := cmpi .eq main_arg5 main_v12
  let main_c_10 : IVec S_ 1 := constantI S_ 1 1#1
  let main_v33 : IVec S_ 1 := (fun x v => Host.reduce IntOp.andi x v reducesTo_S2x4032_S_d0_1 h_S_) main_v32 main_c_10
  let main_v34 : IVec S_ 1 := andi main_v31 main_v33
  main_v34

def fn {F : FTy → Type} [FloatOps F] (main_arg0 : FVec F S256x64x250 .f32) (main_arg1 : FVec F S250x250 .f32) (main_arg2 : FVec F S250 .f32) (main_arg3 : FVec F S250 .f32) (main_arg4 : FVec F S250 .f32) (main_arg5 : IVec S2x4032 32) : IVec S_ 1 :=
  let main_v0 : IVec S2x4032 32 := iotaInDim S2x4032 32 1
  let main_c : IVec S_ 32 := constantI S_ 32 63#32
  let main_v1 : IVec S2x4032 32 := broadcastInDim S2x4032 ![] bcast_S_S2x4032 main_c
  let main_v2 : IVec S2x4032 32 := Host.divsi main_v0 main_v1
  let main_c_0 : IVec S_ 32 := constantI S_ 32 63#32
  let main_v3 : IVec S2x4032 32 := broadcastInDim S2x4032 ![] bcast_S_S2x4032 main_c_0
  let main_v4 : IVec S2x4032 32 := Host.remsi main_v0 main_v3
  let main_v5 : IVec S2x4032 1 := cmpi .sge main_v4 main_v2
  let main_c_1 : IVec S_ 32 := constantI S_ 32 1#32
  let main_v6 : IVec S2x4032 32 := broadcastInDim S2x4032 ![] bcast_S_S2x4032 main_c_1
  let main_v7 : IVec S2x4032 32 := addi main_v4 main_v6
  let main_v8 : IVec S2x4032 32 := select main_v5 main_v7 main_v4
  let main_v9 : IVec S2x4032 32 := iotaInDim S2x4032 32 0
  let main_c_2 : IVec S_ 32 := constantI S_ 32 0#32
  let main_v10 : IVec S2x4032 32 := broadcastInDim S2x4032 ![] bcast_S_S2x4032 main_c_2
  let main_v11 : IVec S2x4032 1 := cmpi .eq main_v9 main_v10
  let main_v12 : IVec S2x4032 32 := select main_v11 main_v2 main_v8
  let main_v13 : FVec F S256x64x250 .f32 := Host.absf main_arg0
  let main_cst : FVec F S_ .f32 := constant S_ .f32 0x7F800000#32
  let main_v14 : FVec F S256x64x250 .f32 := broadcastInDim S256x64x250 ![] bcast_S_S256x64x250 main_cst
  let main_v15 : IVec S256x64x250 1 := cmpf .olt main_v13 main_v14
  let main_c_3 : IVec S_ 1 := constantI S_ 1 1#1
  let main_v16 : IVec S_ 1 := (fun x v => Host.reduce IntOp.andi x v reducesTo_S256x64x250_S_d0_1_2 h_S_) main_v15 main_c_3
  let main_v17 : FVec F S250x250 .f32 := Host.absf main_arg1
  fn_part1 (F := F) main_arg2 main_arg3 main_arg5 main_v12 main_v16 main_v17
-- ==== Kernel.lean ====
abbrev S256x64x250 : Shape := ⟨3, ![256, 64, 250]⟩
abbrev S250x250 : Shape := ⟨2, ![250, 250]⟩
abbrev S250 : Shape := ⟨1, ![250]⟩
abbrev S2x4032 : Shape := ⟨2, ![2, 4032]⟩
abbrev S250x1 : Shape := ⟨2, ![250, 1]⟩
abbrev S1x250 : Shape := ⟨2, ![1, 250]⟩
abbrev S128x64x250 : Shape := ⟨3, ![128, 64, 250]⟩
abbrev S8192x250 : Shape := ⟨2, ![8192, 250]⟩
abbrev S64x250 : Shape := ⟨2, ![64, 250]⟩
abbrev S64x1 : Shape := ⟨2, ![64, 1]⟩
abbrev S1x64 : Shape := ⟨2, ![1, 64]⟩
abbrev S64x64 : Shape := ⟨2, ![64, 64]⟩
abbrev S64 : Shape := ⟨1, ![64]⟩
abbrev S1x64x250 : Shape := ⟨3, ![1, 64, 250]⟩

abbrev nBuf : Space → Nat
  | .hbm => 10
  | .vmem => 8
  | .smem => 0
  | _ => 0

abbrev bufTy : (tb : Table) → Fin (tcTables nBuf tb) → BufTy
  | .hbm, ⟨0, _⟩ => ⟨S256x64x250, .f32⟩
  | .hbm, ⟨1, _⟩ => ⟨S250x250, .f32⟩
  | .hbm, ⟨2, _⟩ => ⟨S250, .f32⟩
  | .hbm, ⟨3, _⟩ => ⟨S250, .f32⟩
  | .hbm, ⟨4, _⟩ => ⟨S250, .f32⟩
  | .hbm, ⟨5, _⟩ => ⟨S2x4032, .i32⟩
  | .hbm, ⟨6, _⟩ => ⟨S250x1, .f32⟩
  | .hbm, ⟨7, _⟩ => ⟨S250x1, .f32⟩
  | .hbm, ⟨8, _⟩ => ⟨S1x250, .f32⟩
  | .hbm, ⟨9, _⟩ => ⟨S256x64x250, .f32⟩
  | .local _ .vmem, ⟨0, _⟩ => ⟨S128x64x250, .f32⟩
  | .local _ .vmem, ⟨1, _⟩ => ⟨S128x64x250, .f32⟩
  | .local _ .vmem, ⟨2, _⟩ => ⟨S250x250, .f32⟩
  | .local _ .vmem, ⟨3, _⟩ => ⟨S250x1, .f32⟩
  | .local _ .vmem, ⟨4, _⟩ => ⟨S250x1, .f32⟩
  | .local _ .vmem, ⟨5, _⟩ => ⟨S1x250, .f32⟩
  | .local _ .vmem, ⟨6, _⟩ => ⟨S128x64x250, .f32⟩
  | .local _ .vmem, ⟨7, _⟩ => ⟨S128x64x250, .f32⟩
  | _, _ => ⟨S256x64x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S250x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S250x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S250x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x250 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64x250 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x64x250 : Shape := ⟨3, ![256, 64, 250]⟩
abbrev S250x250 : Shape := ⟨2, ![250, 250]⟩
abbrev S250 : Shape := ⟨1, ![250]⟩
abbrev S2x4032 : Shape := ⟨2, ![2, 4032]⟩
abbrev S16384x250 : Shape := ⟨2, ![16384, 250]⟩
abbrev S16384 : Shape := ⟨1, ![16384]⟩
abbrev S1x4032 : Shape := ⟨2, ![1, 4032]⟩
abbrev S4032 : Shape := ⟨1, ![4032]⟩
abbrev S20416 : Shape := ⟨1, ![20416]⟩
abbrev S_ : Shape := ⟨0, ![]⟩
abbrev S20416x1 : Shape := ⟨2, ![20416, 1]⟩
abbrev S1x20416 : Shape := ⟨2, ![1, 20416]⟩
abbrev S16384x1 : Shape := ⟨2, ![16384, 1]⟩
abbrev S16384x20416 : Shape := ⟨2, ![16384, 20416]⟩
abbrev S20416x250 : Shape := ⟨2, ![20416, 250]⟩
abbrev S1x250 : Shape := ⟨2, ![1, 250]⟩

abbrev nBuf : Space → Nat
  | .hbm => 115
  | .vmem => 0
  | .smem => 0
  | _ => 0

abbrev bufTy : (tb : Table) → Fin (tcTables nBuf tb) → BufTy
  | .hbm, ⟨0, _⟩ => ⟨S256x64x250, .f32⟩
  | .hbm, ⟨1, _⟩ => ⟨S250x250, .f32⟩
  | .hbm, ⟨2, _⟩ => ⟨S250, .f32⟩
  | .hbm, ⟨3, _⟩ => ⟨S250, .f32⟩
  | .hbm, ⟨4, _⟩ => ⟨S250, .f32⟩
  | .hbm, ⟨5, _⟩ => ⟨S2x4032, .i32⟩
  | .hbm, ⟨6, _⟩ => ⟨S16384x250, .f32⟩
  | .hbm, ⟨7, _⟩ => ⟨S16384, .i32⟩
  | .hbm, ⟨8, _⟩ => ⟨S1x4032, .i32⟩
  | .hbm, ⟨9, _⟩ => ⟨S4032, .i32⟩
  | .hbm, ⟨10, _⟩ => ⟨S20416, .i32⟩
  | .hbm, ⟨11, _⟩ => ⟨S1x4032, .i32⟩
  | .hbm, ⟨12, _⟩ => ⟨S4032, .i32⟩
  | .hbm, ⟨13, _⟩ => ⟨S20416, .i32⟩
  | .hbm, ⟨14, _⟩ => ⟨S16384x250, .f32⟩
  | .hbm, ⟨15, _⟩ => ⟨S16384, .f32⟩
  | .hbm, ⟨16, _⟩ => ⟨S16384, .f32⟩
  | .hbm, ⟨17, _⟩ => ⟨S_, .i32⟩
  | .hbm, ⟨18, _⟩ => ⟨S20416, .i32⟩
  | .hbm, ⟨19, _⟩ => ⟨S20416, .i1⟩
  | .hbm, ⟨20, _⟩ => ⟨S_, .i32⟩
  | .hbm, ⟨21, _⟩ => ⟨S20416, .i32⟩
  | .hbm, ⟨22, _⟩ => ⟨S20416, .i32⟩
  | .hbm, ⟨23, _⟩ => ⟨S20416, .i32⟩
  | .hbm, ⟨24, _⟩ => ⟨S20416x1, .i32⟩
  | .hbm, ⟨25, _⟩ => ⟨S20416, .f32⟩
  | .hbm, ⟨26, _⟩ => ⟨S_, .i32⟩
  | .hbm, ⟨27, _⟩ => ⟨S20416, .i32⟩
  | .hbm, ⟨28, _⟩ => ⟨S20416, .i1⟩
  | .hbm, ⟨29, _⟩ => ⟨S_, .i32⟩
  | .hbm, ⟨30, _⟩ => ⟨S20416, .i32⟩
  | .hbm, ⟨31, _⟩ => ⟨S20416, .i32⟩
  | .hbm, ⟨32, _⟩ => ⟨S20416, .i32⟩
  | .hbm, ⟨33, _⟩ => ⟨S20416x1, .i32⟩
  | .hbm, ⟨34, _⟩ => ⟨S20416, .f32⟩
  | .hbm, ⟨35, _⟩ => ⟨S20416, .f32⟩
  | .hbm, ⟨36, _⟩ => ⟨S_, .f32⟩
  | .hbm, ⟨37, _⟩ => ⟨S_, .f32⟩
  | .hbm, ⟨38, _⟩ => ⟨S20416, .f32⟩
  | .hbm, ⟨39, _⟩ => ⟨S20416, .i1⟩
  | .hbm, ⟨40, _⟩ => ⟨S_, .f32⟩
  | .hbm, ⟨41, _⟩ => ⟨S20416, .f32⟩
  | .hbm, ⟨42, _⟩ => ⟨S20416, .f32⟩
  | .hbm, ⟨43, _⟩ => ⟨S20416, .f32⟩
  | .hbm, ⟨44, _⟩ => ⟨S1x20416, .i32⟩
  | .hbm, ⟨45, _⟩ => ⟨S16384, .i32⟩
  | .hbm, ⟨46, _⟩ => ⟨S16384x1, .i32⟩
  | .hbm, ⟨47, _⟩ => ⟨S16384x20416, .i32⟩
  | .hbm, ⟨48, _⟩ => ⟨S16384x20416, .i32⟩
  | .hbm, ⟨49, _⟩ => ⟨S16384x20416, .i1⟩
  | .hbm, ⟨50, _⟩ => ⟨S1x20416, .f32⟩
  | .hbm, ⟨51, _⟩ => ⟨S_, .f32⟩
  | .hbm, ⟨52, _⟩ => ⟨S_, .f32⟩
  | .hbm, ⟨53, _⟩ => ⟨S16384x20416, .f32⟩
  | .hbm, ⟨54, _⟩ => ⟨S16384x20416, .f32⟩
  | .hbm, ⟨55, _⟩ => ⟨S16384x20416, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .i1⟩
  | .hbm, ⟨62, _⟩ => ⟨S_, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S_, .i32⟩
  | .hbm, ⟨67, _⟩ => ⟨S20416, .i32⟩
  | .hbm, ⟨68, _⟩ => ⟨S20416, .i1⟩
  | .hbm, ⟨69, _⟩ => ⟨S_, .i32⟩
  | .hbm, ⟨70, _⟩ => ⟨S20416, .i32⟩
  | .hbm, ⟨71, _⟩ => ⟨S20416, .i32⟩
  | .hbm, ⟨72, _⟩ => ⟨S20416, .i32⟩
  | .hbm, ⟨73, _⟩ => ⟨S20416x1, .i32⟩
  | .hbm, ⟨74, _⟩ => ⟨S20416, .f32⟩
  | .hbm, ⟨75, _⟩ => ⟨S20416, .f32⟩
  | .hbm, ⟨76, _⟩ => ⟨S20416, .f32⟩
  | .hbm, ⟨77, _⟩ => ⟨S_, .f32⟩
  | .hbm, ⟨78, _⟩ => ⟨S16384, .f32⟩
  | .hbm, ⟨79, _⟩ => ⟨S20416x1, .i32⟩
  | .hbm, ⟨80, _⟩ => ⟨S16384, .f32⟩
  | .hbm, ⟨81, _⟩ => ⟨S_, .i32⟩
  | .hbm, ⟨82, _⟩ => ⟨S20416, .i32⟩
  | .hbm, ⟨83, _⟩ => ⟨S20416, .i1⟩
  | .hbm, ⟨84, _⟩ => ⟨S_, .i32⟩
  | .hbm, ⟨85, _⟩ => ⟨S20416, .i32⟩
  | .hbm, ⟨86, _⟩ => ⟨S20416, .i32⟩
  | .hbm, ⟨87, _⟩ => ⟨S20416, .i32⟩
  | .hbm, ⟨88, _⟩ => ⟨S20416x1, .i32⟩
  | .hbm, ⟨89, _⟩ => ⟨S20416, .f32⟩
  | .hbm, ⟨90, _⟩ => ⟨S_, .f32⟩
  | .hbm, ⟨91, _⟩ => ⟨S_, .f32⟩
  | .hbm, ⟨92, _⟩ => ⟨S20416, .f32⟩
  | .hbm, ⟨93, _⟩ => ⟨S20416, .f32⟩
  | .hbm, ⟨94, _⟩ => ⟨S20416, .f32⟩
  | .hbm, ⟨95, _⟩ => ⟨S20416x1, .f32⟩
  | .hbm, ⟨96, _⟩ => ⟨S_, .i32⟩
  | .hbm, ⟨97, _⟩ => ⟨S20416, .i32⟩
  | .hbm, ⟨98, _⟩ => ⟨S20416, .i1⟩
  | .hbm, ⟨99, _⟩ => ⟨S_, .i32⟩
  | .hbm, ⟨100, _⟩ => ⟨S20416, .i32⟩
  | .hbm, ⟨101, _⟩ => ⟨S20416, .i32⟩
  | .hbm, ⟨102, _⟩ => ⟨S20416, .i32⟩
  | .hbm, ⟨103, _⟩ => ⟨S20416x1, .i32⟩
  | .hbm, ⟨104, _⟩ => ⟨S20416x250, .f32⟩
  | .hbm, ⟨105, _⟩ => ⟨S20416x250, .f32⟩
  | .hbm, ⟨106, _⟩ => ⟨S20416x250, .f32⟩
  | .hbm, ⟨107, _⟩ => ⟨S_, .f32⟩
  | .hbm, ⟨108, _⟩ => ⟨S16384x250, .f32⟩
  | .hbm, ⟨109, _⟩ => ⟨S20416x1, .i32⟩
  | .hbm, ⟨110, _⟩ => ⟨S16384x250, .f32⟩
  | .hbm, ⟨111, _⟩ => ⟨S1x250, .f32⟩
  | .hbm, ⟨112, _⟩ => ⟨S16384x250, .f32⟩
  | .hbm, ⟨113, _⟩ => ⟨S16384x250, .f32⟩
  | .hbm, ⟨114, _⟩ => ⟨S256x64x250, .f32⟩
  | _, _ => ⟨S256x64x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_call2_v0 : Ref sig .tc := ⟨.hbm, 63, rfl⟩
abbrev main_call2_v1 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call3_v0 : Ref sig .tc := ⟨.hbm, 91, rfl⟩
abbrev main_call3_v1 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_13 : Ref sig .tc := ⟨.hbm, 96, rfl⟩
abbrev main_v62 : Ref sig .tc := ⟨.hbm, 97, rfl⟩
abbrev main_v63 : Ref sig .tc := ⟨.hbm, 98, rfl⟩
abbrev main_c_14 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]
-- ==== Proof.Spec.lean ====
/-
  What the layer computes, written once over the extended reals: the projected features, the two attention scores, the
  logit of a pair of nodes, and the softmax-weighted sum over the 64 nodes of the complete graph. Node `n` of 16384 is
  row `n % 64` of batch entry `n / 64`. Both programs are shown to end with `out`.
-/
module

public import Idealize.ShloMosaic.Lib.Pointwise

@[expose] public section

set_option maxRecDepth 16384

noncomputable section

open scoped BigOperators
open Idealize.ShloMosaic

namespace Cert.Gat

/-- The node features, as the programs take them: 256 batch entries of 64 rows of 250 features. -/
abbrev Feat := (⟨3, ![256, 64, 250]⟩ : Shape).Idx → EReal
/-- The projection matrix. -/
abbrev Mat := (⟨2, ![250, 250]⟩ : Shape).Idx → EReal
/-- A vector over the 250 features: an attention vector or the bias. -/
abbrev Vect := (⟨1, ![250]⟩ : Shape).Idx → EReal

/-- Projected feature `j` of node `n`. -/
def hid (x : Feat) (W : Mat) (n : Fin 16384) (j : Fin 250) : EReal :=
  ∑ k : Fin 250, x (ix3 ⟨n.val / 64, by omega⟩ ⟨n.val % 64, by omega⟩ k) * W (ix2 k j)

/-- The score of node `n` under the attention vector `a`. -/
def score (x : Feat) (W : Mat) (a : Vect) (n : Fin 16384) : EReal := ∑ j : Fin 250, hid x W n j * a (ix1 j)

/-- The leaky rectifier with the slope both programs write as the same 32-bit constant. -/
def lrelu (z : EReal) : EReal := if 0 ≤ z then z else Ideal.ofBits .f32 0x3E4CCCCD#32 * z

/-- The logit of the edge from node `s` to node `d`. -/
def logit (x : Feat) (W : Mat) (aS aD : Vect) (s d : Fin 16384) : EReal := lrelu (score x W aS s + score x W aD d)

/-- One of the first 64 nodes, which are the ones the graph joins. -/
def node (s : Fin 64) : Fin 16384 := ⟨s.val, by omega⟩

/-- The greatest logit into node `d` of the complete graph. -/
def peak (x : Feat) (W : Mat) (aS aD : Vect) (d : Fin 64) : EReal :=
  Finset.univ.fold max ⊥ fun s : Fin 64 => logit x W aS aD (node s) (node d)

/-- The unnormalised softmax weight of the edge from `s` to `d`. -/
def wt (x : Feat) (W : Mat) (aS aD : Vect) (d s : Fin 64) : EReal :=
  Ideal.exp (logit x W aS aD (node s) (node d) - peak x W aS aD d)

/-- Feature `j` of node `d` of the complete graph, after attention. -/
def att (x : Feat) (W : Mat) (aS aD : Vect) (d : Fin 64) (j : Fin 250) : EReal :=
  ∑ s : Fin 64, Ideal.div (wt x W aS aD d s) (∑ s' : Fin 64, wt x W aS aD d s') * hid x W (node s) j

/-- Feature `j` of node `n` of the result: attention on the first 64 nodes, the projection itself on the rest, which
    have no edge but their own. -/
def out (x : Feat) (W : Mat) (aS aD b : Vect) (n : Fin 16384) (j : Fin 250) : EReal :=
  (if h : n.val < 64 then att x W aS aD ⟨n.val, h⟩ j else hid x W n j) + b (ix1 j)

end Cert.Gat

end
-- ==== Proof.Edges.lean ====
/-
  The edge list of the graph: 4032 pairs of distinct nodes among the first 64, in lexicographic order, then one loop at
  each of the 16384 nodes. Which edges end at a node: at one of the first 64 exactly one edge from each of the 64 (a
  pair, or the loop); at any other node only its loop.
-/
module

public import proofs.«01_k».proof.Proof.Spec

@[expose] public section

set_option maxRecDepth 16384

noncomputable section

open scoped BigOperators

namespace Cert.Gat

/-- The number of the node that edge `e` leaves. -/
def srcV (e : Nat) : Nat := if e < 4032 then e / 63 else e - 4032
/-- The number of the node that edge `e` enters. -/
def dstV (e : Nat) : Nat := if e < 4032 then (if e / 63 ≤ e % 63 then e % 63 + 1 else e % 63) else e - 4032

/-- Edge `e` leaves one of the 16384 nodes. -/
theorem srcV_lt {e : Nat} (h : e < 20416) : srcV e < 16384 := by unfold srcV; split <;> omega
/-- Edge `e` enters one of the 16384 nodes. -/
theorem dstV_lt {e : Nat} (h : e < 20416) : dstV e < 16384 := by unfold dstV; split_ifs <;> omega

/-- The node that edge `e` leaves. -/
def src (e : Fin 20416) : Fin 16384 := ⟨srcV e.val, srcV_lt e.isLt⟩
/-- The node that edge `e` enters. -/
def dst (e : Fin 20416) : Fin 16384 := ⟨dstV e.val, dstV_lt e.isLt⟩

/-- The edges that enter node `n`. -/
def into (n : Fin 16384) : Finset (Fin 20416) := Finset.univ.filter fun e => dst e = n

/-- The edge from node `s` to node `d` of the first 64: the loop where they are equal, else the pair's place. -/
def edge (d s : Fin 64) : Fin 20416 :=
  ⟨if s.val = d.val then 4032 + d.val else if s.val < d.val then 63 * s.val + (d.val - 1) else 63 * s.val + d.val, by
    split_ifs <;> omega⟩

/-- The loop at node `n`. -/
def loop (n : Fin 16384) : Fin 20416 := ⟨4032 + n.val, by omega⟩

/-- The edge from `s` to `d` leaves `s`. -/
theorem src_edge (d s : Fin 64) : src (edge d s) = node s := by
  apply Fin.ext; unfold src srcV edge node; dsimp only; split_ifs <;> omega

/-- The edge from `s` to `d` enters `d`. -/
theorem dst_edge (d s : Fin 64) : dst (edge d s) = node d := by
  apply Fin.ext; unfold dst dstV edge node; dsimp only; split_ifs <;> omega

/-- The loop at `n` leaves `n`. -/
theorem src_loop (n : Fin 16384) : src (loop n) = n := by
  apply Fin.ext; unfold src srcV loop; dsimp only; split_ifs <;> omega

/-- Edges into one node from two different nodes differ. -/
theorem edge_injective (d : Fin 64) : Function.Injective (edge d) := fun s s' h => by
  have := congrArg src h
  rw [src_edge, src_edge] at this
  have hv : (node s).val = (node s').val := congrArg Fin.val this
  exact Fin.ext hv

/-- An edge that enters one of the first 64 nodes comes from one of them, and is the edge between the two. -/
theorem into_node (d : Fin 64) : into (node d) = Finset.univ.image (edge d) := by
  ext e
  simp only [into, Finset.mem_filter, Finset.mem_univ, true_and, Finset.mem_image]
  constructor
  · intro h
    have hv : dstV e.val = d.val := congrArg Fin.val h
    have he := e.isLt
    unfold dstV at hv
    by_cases h0 : e.val < 4032
    · refine ⟨⟨e.val / 63, by omega⟩, Fin.ext ?_⟩
      unfold edge; dsimp only
      rw [if_pos h0] at hv
      split_ifs at hv ⊢ <;> omega
    · refine ⟨d, Fin.ext ?_⟩
      unfold edge; dsimp only
      rw [if_neg h0] at hv
      rw [if_pos rfl]; omega
  · rintro ⟨s, rfl⟩
    exact dst_edge d s

/-- The only edge that enters a node past the first 64 is its loop. -/
theorem into_far (n : Fin 16384) (hn : 64 ≤ n.val) : into n = {loop n} := by
  ext e
  simp only [into, Finset.mem_filter, Finset.mem_univ, true_and, Finset.mem_singleton]
  have he := e.isLt
  constructor
  · intro h
    have hv : dstV e.val = n.val := congrArg Fin.val h
    apply Fin.ext
    unfold dstV at hv; unfold loop; dsimp only
    split_ifs at hv <;> omega
  · rintro rfl
    apply Fin.ext
    unfold dst dstV loop; dsimp only
    split_ifs <;> omega

/-- A sum over the edges into one of the first 64 nodes is a sum over those 64 nodes. -/
theorem sum_into_node {M : Type} [AddCommMonoid M] (d : Fin 64) (f : Fin 20416 → M) :
    ∑ e ∈ into (node d), f e = ∑ s : Fin 64, f (edge d s) := by
  rw [into_node, Finset.sum_image fun a _ b _ h => edge_injective d h]

/-- The same for a greatest value. -/
theorem fold_into_node (d : Fin 64) (f : Fin 20416 → EReal) :
    (into (node d)).fold max ⊥ f = Finset.univ.fold max ⊥ fun s : Fin 64 => f (edge d s) := by
  rw [into_node, Finset.fold_image fun a _ b _ h => edge_injective d h]
  rfl

end Cert.Gat

end
-- ==== Proof.Index.lean ====
module

public import proofs.«01_k».proof.Proof.Spec
public import proofs.«01_k».proof.Proof.Gen.ReferenceIdeal.Read
public import Idealize.ShloMosaic.Lib.Pointwise
public import Idealize.ShloMosaic.Lib.DynamicIndex

/-! What the reference's gathers read and its scatters add, when the index column holds node
numbers. -/

@[expose] public section

set_option maxRecDepth 16384

open Idealize.ShloMosaic
open Cert.ReferenceIdeal

noncomputable section

namespace Cert.Gat.Index

variable [Cert.ReferenceIdeal.Facts₀]

/-- The word of a node number, read signed, is that number. -/
theorem word_toInt (n : Fin 16384) : (BitVec.ofNat 32 n.val).toInt = (n.val : Int) :=
  toInt_ofNat_of_lt (lt_trans n.isLt (by norm_num))

/-- Of a matrix's two axes the second is not the first. -/
theorem one_not_zero : (1 : Fin 2) ∉ [(0 : Fin 2)] := by decide

/-- The axes a scatter keeps are those it does not insert. -/
theorem mem_kept {s si u : Shape} {d : ScatterDims s si u} {a : Fin s.rank} :
    a ∈ d.sKept ↔ a ∉ d.insertedWindowDims := by
  simp [ScatterDims.sKept, Shape.kept, List.mem_filter, List.mem_finRange]

/-- Gathering single entries of a vector: entry `e` of the result is the vector at the node the
index column names there. -/
theorem take_entry {α : Type} (v : S16384.Idx → α) (col : IVec S20416x1 32) (e : Fin 20416)
    (n : Fin 16384) (h : col (ix2 e 0) = BitVec.ofNat 32 n.val) :
    Host.gather gather_S16384_S20416x1_S20416_n_0_n_n_0_1_1 v col (ix1 e) = v (ix1 n) := by
  have hst : gather_S16384_S20416x1_S20416_n_0_n_n_0_1_1.start (ix1 e) col 0 = n.val := by
    have hc : gather_S16384_S20416x1_S20416_n_0_n_n_0_1_1.siIdx (ix1 e) ⟨0, Nat.zero_lt_one⟩ = ix2 e 0 := by
      funext b
      match b with
      | ⟨0, _⟩ => rfl
      | ⟨1, _⟩ => rfl
    have : gather_S16384_S20416x1_S20416_n_0_n_n_0_1_1.start (ix1 e) col 0
        = min (col (gather_S16384_S20416x1_S20416_n_0_n_n_0_1_1.siIdx (ix1 e) ⟨0, Nat.zero_lt_one⟩)).toInt.toNat (16384 - 1) := by
      unfold GatherDims.start
      exact dif_pos (List.mem_singleton.mpr rfl)
    rw [this, hc, h, word_toInt]
    have := n.isLt
    omega
  unfold Host.gather
  congr 1
  funext a
  obtain rfl : a = 0 := Subsingleton.elim _ _
  refine Fin.ext ?_
  show gather_S16384_S20416x1_S20416_n_0_n_n_0_1_1.start (ix1 e) col 0
    + gather_S16384_S20416x1_S20416_n_0_n_n_0_1_1.batchCoord (ix1 e) 0
    + gather_S16384_S20416x1_S20416_n_0_n_n_0_1_1.offCoord (ix1 e) 0 = n.val
  rw [hst, GatherDims.batchCoord_eq_zero _ _ _ List.not_mem_nil,
    GatherDims.offCoord_eq_zero _ _ _ fun hk => ((GatherDims.mem_sKept _ _).mp hk).1 (List.mem_singleton.mpr rfl)]
  rfl

/-- Gathering rows of a matrix: row `e` of the result is the matrix's row at the node the index
column names there. -/
theorem take_row {α : Type} (v : S16384x250.Idx → α) (col : IVec S20416x1 32) (e : Fin 20416)
    (j : Fin 250) (n : Fin 16384) (h : col (ix2 e 0) = BitVec.ofNat 32 n.val) :
    Host.gather gather_S16384x250_S20416x1_S20416x250_1_0_n_n_0_1_1250 v col (ix2 e j) = v (ix2 n j) := by
  have hst : gather_S16384x250_S20416x1_S20416x250_1_0_n_n_0_1_1250.start (ix2 e j) col 0 = n.val := by
    have hc : gather_S16384x250_S20416x1_S20416x250_1_0_n_n_0_1_1250.siIdx (ix2 e j) ⟨0, Nat.zero_lt_one⟩ = ix2 e 0 := by
      funext b
      match b with
      | ⟨0, _⟩ => rfl
      | ⟨1, _⟩ => rfl
    have : gather_S16384x250_S20416x1_S20416x250_1_0_n_n_0_1_1250.start (ix2 e j) col 0
        = min (col (gather_S16384x250_S20416x1_S20416x250_1_0_n_n_0_1_1250.siIdx (ix2 e j) ⟨0, Nat.zero_lt_one⟩)).toInt.toNat (16384 - 1) := by
      unfold GatherDims.start
      exact dif_pos (List.mem_singleton.mpr rfl)
    rw [this, hc, h, word_toInt]
    have := n.isLt
    omega
  have hst1 : gather_S16384x250_S20416x1_S20416x250_1_0_n_n_0_1_1250.start (ix2 e j) col 1 = 0 := by
    unfold GatherDims.start
    exact dif_neg one_not_zero
  have hoff : gather_S16384x250_S20416x1_S20416x250_1_0_n_n_0_1_1250.offCoord (ix2 e j) 1 = j.val := by
    unfold GatherDims.offCoord
    exact dif_pos ((GatherDims.mem_sKept _ _).mpr ⟨one_not_zero, List.not_mem_nil⟩)
  unfold Host.gather
  congr 1
  funext a
  refine Fin.ext ?_
  show gather_S16384x250_S20416x1_S20416x250_1_0_n_n_0_1_1250.start (ix2 e j) col a
    + gather_S16384x250_S20416x1_S20416x250_1_0_n_n_0_1_1250.batchCoord (ix2 e j) a
    + gather_S16384x250_S20416x1_S20416x250_1_0_n_n_0_1_1250.offCoord (ix2 e j) a = (ix2 n j a).val
  rw [GatherDims.batchCoord_eq_zero _ _ _ List.not_mem_nil]
  match a with
  | ⟨0, _⟩ =>
    show gather_S16384x250_S20416x1_S20416x250_1_0_n_n_0_1_1250.start (ix2 e j) col 0 + 0
      + gather_S16384x250_S20416x1_S20416x250_1_0_n_n_0_1_1250.offCoord (ix2 e j) 0 = n.val
    rw [hst, GatherDims.offCoord_eq_zero _ _ _ fun hk => ((GatherDims.mem_sKept _ _).mp hk).1 (List.mem_singleton.mpr rfl)]
    rfl
  | ⟨1, _⟩ =>
    show gather_S16384x250_S20416x1_S20416x250_1_0_n_n_0_1_1250.start (ix2 e j) col 1 + 0
      + gather_S16384x250_S20416x1_S20416x250_1_0_n_n_0_1_1250.offCoord (ix2 e j) 1 = j.val
    rw [hst1, hoff, Nat.zero_add]

/-- Where update `e` of a scatter of single entries lands: at the node its index names. -/
theorem put_entry (col : IVec S20416x1 32) (e : Fin 20416) (n : Fin 16384)
    (h : col (ix2 e 0) = BitVec.ofNat 32 n.val) :
    scatter_S16384_S20416x1_S20416_n_0_0_1.resultIdx? (ix1 e) col = some (ix1 n) := by
  have hst : scatter_S16384_S20416x1_S20416_n_0_0_1.start (ix1 e) col 0 = (n.val : Int) := by
    have hc : scatter_S16384_S20416x1_S20416_n_0_0_1.siIdx (ix1 e) ⟨0, Nat.zero_lt_one⟩ = ix2 e 0 := by
      funext b
      match b with
      | ⟨0, _⟩ => rfl
      | ⟨1, _⟩ => rfl
    have : scatter_S16384_S20416x1_S20416_n_0_0_1.start (ix1 e) col 0
        = (col (scatter_S16384_S20416x1_S20416_n_0_0_1.siIdx (ix1 e) ⟨0, Nat.zero_lt_one⟩)).toInt := by
      unfold ScatterDims.start
      exact dif_pos (List.mem_singleton.mpr rfl)
    rw [this, hc, h, word_toInt]
  have hwin : scatter_S16384_S20416x1_S20416_n_0_0_1.window (ix1 e) 0 = 0 := by
    unfold ScatterDims.window
    exact dif_neg fun hk => (mem_kept.mp hk) (List.mem_singleton.mpr rfl)
  have hn := n.isLt
  unfold ScatterDims.resultIdx?
  have hall : ∀ a, 0 ≤ scatter_S16384_S20416x1_S20416_n_0_0_1.start (ix1 e) col a
      + scatter_S16384_S20416x1_S20416_n_0_0_1.window (ix1 e) a
      ∧ scatter_S16384_S20416x1_S20416_n_0_0_1.start (ix1 e) col a
      + scatter_S16384_S20416x1_S20416_n_0_0_1.window (ix1 e) a < S16384.size a := by
    intro a
    obtain rfl : a = 0 := Subsingleton.elim _ _
    rw [hst, hwin]
    show (0 : Int) ≤ (n.val : Int) + ((0 : Nat) : Int) ∧ (n.val : Int) + ((0 : Nat) : Int) < ((16384 : Nat) : Int)
    omega
  rw [dif_pos hall]
  congr 1
  funext a
  obtain rfl : a = 0 := Subsingleton.elim _ _
  refine Fin.ext ?_
  show (scatter_S16384_S20416x1_S20416_n_0_0_1.start (ix1 e) col 0
      + scatter_S16384_S20416x1_S20416_n_0_0_1.window (ix1 e) 0).toNat = n.val
  rw [hst, hwin]
  omega

/-- Where update `(e, j)` of a scatter of rows lands: at column `j` of the node its index
names. -/
theorem put_row (col : IVec S20416x1 32) (e : Fin 20416) (j : Fin 250) (n : Fin 16384)
    (h : col (ix2 e 0) = BitVec.ofNat 32 n.val) :
    scatter_S16384x250_S20416x1_S20416x250_1_0_0_1.resultIdx? (ix2 e j) col = some (ix2 n j) := by
  have hst : scatter_S16384x250_S20416x1_S20416x250_1_0_0_1.start (ix2 e j) col 0 = (n.val : Int) := by
    have hc : scatter_S16384x250_S20416x1_S20416x250_1_0_0_1.siIdx (ix2 e j) ⟨0, Nat.zero_lt_one⟩ = ix2 e 0 := by
      funext b
      match b with
      | ⟨0, _⟩ => rfl
      | ⟨1, _⟩ => rfl
    have : scatter_S16384x250_S20416x1_S20416x250_1_0_0_1.start (ix2 e j) col 0
        = (col (scatter_S16384x250_S20416x1_S20416x250_1_0_0_1.siIdx (ix2 e j) ⟨0, Nat.zero_lt_one⟩)).toInt := by
      unfold ScatterDims.start
      exact dif_pos (List.mem_singleton.mpr rfl)
    rw [this, hc, h, word_toInt]
  have hst1 : scatter_S16384x250_S20416x1_S20416x250_1_0_0_1.start (ix2 e j) col 1 = 0 := by
    unfold ScatterDims.start
    exact dif_neg one_not_zero
  have hwin : scatter_S16384x250_S20416x1_S20416x250_1_0_0_1.window (ix2 e j) 0 = 0 := by
    unfold ScatterDims.window
    exact dif_neg fun hk => (mem_kept.mp hk) (List.mem_singleton.mpr rfl)
  have hwin1 : scatter_S16384x250_S20416x1_S20416x250_1_0_0_1.window (ix2 e j) 1 = j.val := by
    unfold ScatterDims.window
    exact dif_pos (mem_kept.mpr one_not_zero)
  have hn := n.isLt
  have hj := j.isLt
  unfold ScatterDims.resultIdx?
  have hall : ∀ a, 0 ≤ scatter_S16384x250_S20416x1_S20416x250_1_0_0_1.start (ix2 e j) col a
      + scatter_S16384x250_S20416x1_S20416x250_1_0_0_1.window (ix2 e j) a
      ∧ scatter_S16384x250_S20416x1_S20416x250_1_0_0_1.start (ix2 e j) col a
      + scatter_S16384x250_S20416x1_S20416x250_1_0_0_1.window (ix2 e j) a < S16384x250.size a := by
    intro a
    match a with
    | ⟨0, _⟩ =>
      refine (?_ : 0 ≤ scatter_S16384x250_S20416x1_S20416x250_1_0_0_1.start (ix2 e j) col 0
        + scatter_S16384x250_S20416x1_S20416x250_1_0_0_1.window (ix2 e j) 0
        ∧ scatter_S16384x250_S20416x1_S20416x250_1_0_0_1.start (ix2 e j) col 0
        + scatter_S16384x250_S20416x1_S20416x250_1_0_0_1.window (ix2 e j) 0 < ((16384 : Nat) : Int))
      rw [hst, hwin]
      omega
    | ⟨1, _⟩ =>
      refine (?_ : 0 ≤ scatter_S16384x250_S20416x1_S20416x250_1_0_0_1.start (ix2 e j) col 1
        + scatter_S16384x250_S20416x1_S20416x250_1_0_0_1.window (ix2 e j) 1
        ∧ scatter_S16384x250_S20416x1_S20416x250_1_0_0_1.start (ix2 e j) col 1
        + scatter_S16384x250_S20416x1_S20416x250_1_0_0_1.window (ix2 e j) 1 < ((250 : Nat) : Int))
      rw [hst1, hwin1]
      omega
  rw [dif_pos hall]
  congr 1
  funext a
  refine Fin.ext ?_
  match a with
  | ⟨0, _⟩ =>
    show (scatter_S16384x250_S20416x1_S20416x250_1_0_0_1.start (ix2 e j) col 0
        + scatter_S16384x250_S20416x1_S20416x250_1_0_0_1.window (ix2 e j) 0).toNat = n.val
    rw [hst, hwin]
    omega
  | ⟨1, _⟩ =>
    show (scatter_S16384x250_S20416x1_S20416x250_1_0_0_1.start (ix2 e j) col 1
        + scatter_S16384x250_S20416x1_S20416x250_1_0_0_1.window (ix2 e j) 1).toNat = j.val
    rw [hst1, hwin1]
    omega

/-- A sum over the images of the indices that satisfy a condition is the sum over those indices,
when the map is injective and the conditions correspond. -/
theorem sum_images {ι κ : Type} [Fintype ι] [Fintype κ] {P : ι → Prop} {Q : κ → Prop}
    [DecidablePred P] [DecidablePred Q] (g : ι → κ) (hg : Function.Injective g)
    (hPQ : ∀ i, P i → Q (g i)) (hQP : ∀ k, Q k → ∃ i, P i ∧ g i = k) (f : κ → EReal) :
    ∑ k ∈ Finset.univ.filter Q, f k = ∑ i ∈ Finset.univ.filter P, f (g i) := by
  symm
  refine Finset.sum_bij (fun i _ => g i) ?_ ?_ ?_ ?_
  · intro i hi
    exact Finset.mem_filter.mpr ⟨Finset.mem_univ _, hPQ i (Finset.mem_filter.mp hi).2⟩
  · intro i _ i' _ h
    exact hg h
  · intro k hk
    obtain ⟨i, hi, rfl⟩ := hQP k (Finset.mem_filter.mp hk).2
    exact ⟨i, Finset.mem_filter.mpr ⟨Finset.mem_univ _, hi⟩, rfl⟩
  · intro i _
    rfl

/-- A scatter of single entries adds to a node's entry the updates whose index is that node. -/
theorem add_entries (z : S16384.Idx → EReal) (col : IVec S20416x1 32) (upd : S20416.Idx → EReal)
    (tgt : Fin 20416 → Fin 16384) (h : ∀ e, col (ix2 e 0) = BitVec.ofNat 32 (tgt e).val)
    (n : Fin 16384) :
    Ideal.hostScatterAdd scatter_S16384_S20416x1_S20416_n_0_0_1 z col upd (ix1 n)
      = z (ix1 n) + ∑ e ∈ Finset.univ.filter (fun e => tgt e = n), upd (ix1 e) := by
  unfold Ideal.hostScatterAdd
  refine congrArg₂ (· + ·) rfl ?_
  refine sum_images (fun e : Fin 20416 => (ix1 e : S20416.Idx)) (fun e e' hee => congrFun hee 0) (fun e he => ?_) (fun i hi => ?_) upd
  · rw [put_entry col e (tgt e) (h e), he]
  · rw [eq_ix1 i] at hi
    rw [put_entry col (i 0) (tgt (i 0)) (h (i 0))] at hi
    exact ⟨i 0, congrFun (Option.some.inj hi) 0, (eq_ix1 i).symm⟩

/-- A scatter of rows adds to a node's row the update rows whose index is that node. -/
theorem add_rows (z : S16384x250.Idx → EReal) (col : IVec S20416x1 32)
    (upd : S20416x250.Idx → EReal) (tgt : Fin 20416 → Fin 16384)
    (h : ∀ e, col (ix2 e 0) = BitVec.ofNat 32 (tgt e).val) (n : Fin 16384) (j : Fin 250) :
    Ideal.hostScatterAdd scatter_S16384x250_S20416x1_S20416x250_1_0_0_1 z col upd (ix2 n j)
      = z (ix2 n j) + ∑ e ∈ Finset.univ.filter (fun e => tgt e = n), upd (ix2 e j) := by
  unfold Ideal.hostScatterAdd
  refine congrArg₂ (· + ·) rfl ?_
  refine sum_images (fun e : Fin 20416 => (ix2 e j : S20416x250.Idx)) (fun e e' hee => congrFun hee 0) (fun e he => ?_) (fun i hi => ?_) upd
  · rw [put_row col e j (tgt e) (h e), he]
  · rw [eq_ix2 i] at hi
    rw [put_row col (i 0) (i 1) (tgt (i 0)) (h (i 0))] at hi
    have h1 : i 1 = j := congrFun (Option.some.inj hi) 1
    refine ⟨i 0, congrFun (Option.some.inj hi) 0, ?_⟩
    rw [← h1]
    exact (eq_ix2 i).symm

end Cert.Gat.Index
-- ==== Proof.RefEdges.lean ====
module

public import proofs.«01_k».proof.Proof.Edges
public import proofs.«01_k».proof.Proof.Index
public import Idealize.ShloMosaic.Lib.Pipeline.Value
public import Idealize.ShloMosaic.Lib.Affine

/-! The edge columns of the reference: over the all-pairs edge list, every one of them holds the
node an edge leaves or the node it enters. -/

@[expose] public section

set_option maxRecDepth 16384

open Idealize.ShloMosaic
open Cert.ReferenceIdeal Cert.ReferenceIdeal.Read

noncomputable section

namespace Cert.Gat.Ref

variable [Cert.ReferenceIdeal.Facts]

/-- The edge list is the all-pairs list: where each edge leaves and where it enters. -/
structure Listed (E : IVec S2x4032 32) : Prop where
  /-- The first row holds where the edges leave. -/
  tail : ∀ e : Fin 4032, E (ix2 0 e) = BitVec.ofNat 32 (srcV e.val)
  /-- The second row holds where the edges enter. -/
  head : ∀ e : Fin 4032, E (ix2 1 e) = BitVec.ofNat 32 (dstV e.val)

variable {E : IVec S2x4032 32} (hE : Listed E)
include hE

/-- The list of tails with the loops appended. -/
theorem tails (e : Fin 20416) :
    val_main_v4 (F := Ideal) E (ix1 e) = BitVec.ofNat 32 (src e).val := by
  unfold val_main_v4
  by_cases h : e.val < 4032
  · rw [concatenate_pair_apply_left (t := S20416) (s₁ := S4032) (s₂ := S16384) 0 _ _ _ (ix1 e) rfl (ix1 (⟨e.val, h⟩ : Fin 4032) : S4032.Idx) (by intro b; obtain rfl : b = 0 := Subsingleton.elim _ _; rfl)]
    pointwise [val_main_v3, val_main_v2]
    exact hE.tail ⟨e.val, h⟩
  · have hs : e.val - 4032 < 16384 := by have := e.isLt; omega
    rw [concatenate_pair_apply_right (t := S20416) (s₁ := S4032) (s₂ := S16384) 0 _ _ _ (ix1 e) rfl rfl (ix1 (⟨e.val - 4032, hs⟩ : Fin 16384) : S16384.Idx)
      (by intro b hb; exact absurd (Subsingleton.elim _ _) hb) (by show e.val - 4032 + 4032 = e.val; omega)]
    show BitVec.ofNat 32 (e.val - 4032) = BitVec.ofNat 32 (srcV e.val)
    unfold srcV
    rw [if_neg h]

/-- The list of heads with the loops appended. -/
theorem heads (e : Fin 20416) :
    val_main_v7 (F := Ideal) E (ix1 e) = BitVec.ofNat 32 (dst e).val := by
  unfold val_main_v7
  by_cases h : e.val < 4032
  · rw [concatenate_pair_apply_left (t := S20416) (s₁ := S4032) (s₂ := S16384) 0 _ _ _ (ix1 e) rfl (ix1 (⟨e.val, h⟩ : Fin 4032) : S4032.Idx) (by intro b; obtain rfl : b = 0 := Subsingleton.elim _ _; rfl)]
    pointwise [val_main_v6, val_main_v5]
    exact hE.head ⟨e.val, h⟩
  · have hs : e.val - 4032 < 16384 := by have := e.isLt; omega
    rw [concatenate_pair_apply_right (t := S20416) (s₁ := S4032) (s₂ := S16384) 0 _ _ _ (ix1 e) rfl rfl (ix1 (⟨e.val - 4032, hs⟩ : Fin 16384) : S16384.Idx)
      (by intro b hb; exact absurd (Subsingleton.elim _ _) hb) (by show e.val - 4032 + 4032 = e.val; omega)]
    show BitVec.ofNat 32 (e.val - 4032) = BitVec.ofNat 32 (dstV e.val)
    unfold dstV
    rw [if_neg h]

omit hE [Cert.ReferenceIdeal.Facts] in
/-- Counting a negative index from the end leaves a node number as it is. -/
theorem wrap (n : Fin 16384) (w : BitVec 32) :
    Scalar.select (IntOp.cmpi .slt (BitVec.ofNat 32 n.val) 0#32) w (BitVec.ofNat 32 n.val)
      = BitVec.ofNat 32 n.val :=
  select_slt_zero_of_nonneg (s := ⟨0, ![]⟩) (fun _ => BitVec.ofNat 32 n.val) (fun _ => w)
    (fun _ => BitVec.ofNat 32 n.val) (fun a => a.elim0) (by rw [Index.word_toInt]; exact Int.natCast_nonneg _)

/-- The index column of the scores gathered at the tails. -/
theorem col16 (e : Fin 20416) : val_main_v16 (F := Ideal) E (ix2 e 0) = BitVec.ofNat 32 (src e).val := by
  have h : val_main_v16 (F := Ideal) E (ix2 e 0) = Scalar.select
      (IntOp.cmpi .slt (val_main_v4 (F := Ideal) E (ix1 e)) 0#32)
      (IntOp.addi (val_main_v4 (F := Ideal) E (ix1 e)) 16384#32) (val_main_v4 (F := Ideal) E (ix1 e)) := by
    rw [val_main_v16_apply, show idx_main_v16 (ix2 e 0) = ix1 e from eq_ix1 _]
    rfl
  rw [h, tails hE, wrap]

/-- The index column of the scores gathered at the heads. -/
theorem col23 (e : Fin 20416) : val_main_v23 (F := Ideal) E (ix2 e 0) = BitVec.ofNat 32 (dst e).val := by
  have h : val_main_v23 (F := Ideal) E (ix2 e 0) = Scalar.select
      (IntOp.cmpi .slt (val_main_v7 (F := Ideal) E (ix1 e)) 0#32)
      (IntOp.addi (val_main_v7 (F := Ideal) E (ix1 e)) 16384#32) (val_main_v7 (F := Ideal) E (ix1 e)) := by
    rw [val_main_v23_apply, show idx_main_v23 (ix2 e 0) = ix1 e from eq_ix1 _]
    rfl
  rw [h, heads hE, wrap]

/-- The index column of the greatest logits gathered at the heads. -/
theorem col45 (e : Fin 20416) : val_main_v45 (F := Ideal) E (ix2 e 0) = BitVec.ofNat 32 (dst e).val := by
  have h : val_main_v45 (F := Ideal) E (ix2 e 0) = Scalar.select
      (IntOp.cmpi .slt (val_main_v7 (F := Ideal) E (ix1 e)) 0#32)
      (IntOp.addi (val_main_v7 (F := Ideal) E (ix1 e)) 16384#32) (val_main_v7 (F := Ideal) E (ix1 e)) := by
    rw [val_main_v45_apply, show idx_main_v45 (ix2 e 0) = ix1 e from eq_ix1 _]
    rfl
  rw [h, heads hE, wrap]

/-- The index column of the denominators gathered at the heads. -/
theorem col57 (e : Fin 20416) : val_main_v57 (F := Ideal) E (ix2 e 0) = BitVec.ofNat 32 (dst e).val := by
  have h : val_main_v57 (F := Ideal) E (ix2 e 0) = Scalar.select
      (IntOp.cmpi .slt (val_main_v7 (F := Ideal) E (ix1 e)) 0#32)
      (IntOp.addi (val_main_v7 (F := Ideal) E (ix1 e)) 16384#32) (val_main_v7 (F := Ideal) E (ix1 e)) := by
    rw [val_main_v57_apply, show idx_main_v57 (ix2 e 0) = ix1 e from eq_ix1 _]
    rfl
  rw [h, heads hE, wrap]

/-- The index column of the hidden rows gathered at the tails. -/
theorem col67 (e : Fin 20416) : val_main_v67 (F := Ideal) E (ix2 e 0) = BitVec.ofNat 32 (src e).val := by
  have h : val_main_v67 (F := Ideal) E (ix2 e 0) = Scalar.select
      (IntOp.cmpi .slt (val_main_v4 (F := Ideal) E (ix1 e)) 0#32)
      (IntOp.addi (val_main_v4 (F := Ideal) E (ix1 e)) 16384#32) (val_main_v4 (F := Ideal) E (ix1 e)) := by
    rw [val_main_v67_apply, show idx_main_v67 (ix2 e 0) = ix1 e from eq_ix1 _]
    rfl
  rw [h, tails hE, wrap]

/-- The index column of the denominators' scatter. -/
theorem col50 (e : Fin 20416) : val_main_v50 (F := Ideal) E (ix2 e 0) = BitVec.ofNat 32 (dst e).val := by
  rw [val_main_v50_apply, show idx_main_v50 (ix2 e 0) = ix1 e from eq_ix1 _, heads hE]

/-- The index column of the rows' scatter. -/
theorem col72 (e : Fin 20416) : val_main_v72 (F := Ideal) E (ix2 e 0) = BitVec.ofNat 32 (dst e).val := by
  rw [val_main_v72_apply, show idx_main_v72 (ix2 e 0) = ix1 e from eq_ix1 _, heads hE]

end Cert.Gat.Ref
-- ==== Proof.Block.lean ====
/-
  What the kernel computes from one block: the values it stores, read at an index, are those of the layer. A block is
  128 batch entries; block `t` starts at entry `128 t`, so at node `8192 t`.
-/
module

public import proofs.«01_k».proof.Proof.Spec
public import proofs.«01_k».proof.Proof.Gen.KernelIdeal.Skeleton

@[expose] public section

set_option maxRecDepth 16384

noncomputable section

open scoped BigOperators
open Idealize.ShloMosaic

namespace Cert.Gat.Block

open Cert.KernelIdeal Cert.KernelIdeal.Gen

/-- The 32-bit pattern the maximum starts from is the least extended real. -/
theorem ofBits_bot : Ideal.ofBits .f32 0xFF800000#32 = ⊥ := by
  simp [Ideal.ofBits, Ideal.ieee]

variable {x : Feat} {W : Mat} {aS aD b : Vect}
variable {v0 : Vec Ideal S128x64x250 .f32} {v14 v17 : Vec Ideal S250x1 .f32} {v4 : Vec Ideal S1x250 .f32}

/-- The product of a block with the projection is the block's rows of the projected features. -/
theorem pay1_apply (t : Nat) (ht : t < 2)
    (h0 : ∀ (p : Fin 128) (q : Fin 64) (k : Fin 250), v0 (ix3 p q k) = x (ix3 ⟨128 * t + p.val, by omega⟩ q k))
    (n : Fin 8192) (j : Fin 250) : k0_pay1 v0 W (ix2 n j) = hid x W ⟨8192 * t + n.val, by omega⟩ j := by
  pointwise [k0_pay1]
  unfold hid
  refine Finset.sum_congr rfl fun k _ => ?_
  rw [h0]
  congr 2
  congr 1 <;> apply Fin.ext <;> dsimp only <;> omega

/-- The block stored first: the projected features plus the bias. -/
theorem pay2_apply (t : Nat) (ht : t < 2)
    (h0 : ∀ (p : Fin 128) (q : Fin 64) (k : Fin 250), v0 (ix3 p q k) = x (ix3 ⟨128 * t + p.val, by omega⟩ q k))
    (h4 : ∀ j : Fin 250, v4 (ix2 0 j) = b (ix1 j))
    (p : Fin 128) (q : Fin 64) (j : Fin 250) :
    k0_pay2 v0 W v4 (ix3 p q j) = hid x W ⟨8192 * t + 64 * p.val + q.val, by omega⟩ j + b (ix1 j) := by
  pointwise [k0_pay2]
  rw [pay1_apply t ht h0, h4]
  congr 2
  apply Fin.ext
  dsimp only
  omega

/-- The rows stored over the first block's first entry: attention over the 64 nodes, plus the bias. -/
theorem pay3_apply
    (h0 : ∀ (p : Fin 128) (q : Fin 64) (k : Fin 250), v0 (ix3 p q k) = x (ix3 ⟨128 * 0 + p.val, by omega⟩ q k))
    (h14 : ∀ j : Fin 250, v14 (ix2 j 0) = aS (ix1 j)) (h17 : ∀ j : Fin 250, v17 (ix2 j 0) = aD (ix1 j))
    (h4 : ∀ j : Fin 250, v4 (ix2 0 j) = b (ix1 j)) (q : Fin 64) (j : Fin 250) :
    k0_pay3 v0 W v14 v17 v4 (ix3 0 q j) = att x W aS aD q j + b (ix1 j) := by
  have hh (s : Fin 64) (h : s.val < 8192) (i : Fin 250) :
      k0_pay1 v0 W (ix2 (⟨s.val, h⟩ : Fin 8192) i) = hid x W (node s) i := by
    rw [pay1_apply 0 (by decide) h0]
    congr 1
    exact Fin.ext (by simp [node])
  pointwise [k0_pay3]
  simp only [hh, h14, h17, h4, ofBits_bot]
  unfold att wt peak logit lrelu score
  have hc (s : Fin 64) :
      ∑ i, hid x W (node q) i * aD (ix1 i) + ∑ i, hid x W (node s) i * aS (ix1 i)
        = ∑ i, hid x W (node s) i * aS (ix1 i) + ∑ i, hid x W (node q) i * aD (ix1 i) := add_comm _ _
  simp only [hc]

end Cert.Gat.Block

end
-- ==== Proof.RefLogit.lean ====
module

public import proofs.«01_k».proof.Proof.RefEdges
public import proofs.«01_k».proof.Proof.Block

/-! What the reference computes up to the greatest logit into each node. -/

@[expose] public section

set_option maxRecDepth 16384

open Idealize.ShloMosaic
open Cert.ReferenceIdeal Cert.ReferenceIdeal.Read

noncomputable section

namespace Cert.Gat.Ref

variable [Cert.ReferenceIdeal.Facts]
variable (x : Feat) (W : Mat) (aS aD : Vect) {E : IVec S2x4032 32} (hE : Listed E)

/-- The hidden features. -/
theorem hidden (n : Fin 16384) (j : Fin 250) : val_main_v8 (F := Ideal) x W (ix2 n j) = hid x W n j := by
  pointwise [val_main_v8, val_main_v0]
  rfl

/-- The scores of the tails. -/
theorem tail_score (n : Fin 16384) : val_main_v9 (F := Ideal) x W aS (ix1 n) = score x W aS n := by
  rw [val_main_v9_apply]
  refine Finset.sum_congr rfl fun k _ => ?_
  rw [show lidx_main_v9 (ix1 n) k = ix2 n k from eq_ix2 _, show ridx_main_v9 (ix1 n) k = ix1 k from eq_ix1 _,
    hidden]

/-- The scores of the heads. -/
theorem head_score (n : Fin 16384) : val_main_v10 (F := Ideal) x W aD (ix1 n) = score x W aD n := by
  rw [val_main_v10_apply]
  refine Finset.sum_congr rfl fun k _ => ?_
  rw [show lidx_main_v10 (ix1 n) k = ix2 n k from eq_ix2 _, show ridx_main_v10 (ix1 n) k = ix1 k from eq_ix1 _,
    hidden]

include hE

/-- The logit of an edge. -/
theorem edge_logit (e : Fin 20416) :
    val_main_v26 (F := Ideal) x W aS aD E (ix1 e) = logit x W aS aD (src e) (dst e) := by
  have h1 : val_main_v17 (F := Ideal) x W aS E (ix1 e) = score x W aS (src e) :=
    (Index.take_entry _ _ e (src e) (col16 hE e)).trans (tail_score x W aS (src e))
  have h2 : val_main_v24 (F := Ideal) x W aD E (ix1 e) = score x W aD (dst e) :=
    (Index.take_entry _ _ e (dst e) (col23 hE e)).trans (head_score x W aD (dst e))
  pointwise [val_main_v26, val_main_call0_v1, val_main_call0_v0, val_main_call0_cst, val_main_call0_v4,
    val_main_call0_v3, val_main_call0_v2, val_main_cst, val_main_v25]
  rw [h1, h2]
  rfl

omit hE [Cert.ReferenceIdeal.Facts] in
/-- The words of two node numbers are equal exactly when the nodes are. -/
theorem word_eq (n n' : Fin 16384) : BitVec.ofNat 32 n.val = BitVec.ofNat 32 n'.val ↔ n = n' := by
  refine ⟨fun h => Fin.ext ?_, fun h => by rw [h]⟩
  have := congrArg BitVec.toInt h
  rw [Index.word_toInt, Index.word_toInt] at this
  exact_mod_cast this

/-- The logit of an edge, kept where the edge enters the node. -/
theorem kept_logit (n : Fin 16384) (e : Fin 20416) : val_main_v34 (F := Ideal) x W aS aD E (ix2 n e)
    = if dst e = n then logit x W aS aD (src e) (dst e) else ⊥ := by
  have h : val_main_v34 (F := Ideal) x W aS aD E (ix2 n e) = Scalar.select
      (IntOp.cmpi .eq (val_main_v7 (F := Ideal) E (ix1 e)) (BitVec.ofNat 32 n.val))
      (val_main_v26 (F := Ideal) x W aS aD E (ix1 e)) (Ideal.ofBits .f32 0xFF800000#32) := by
    rw [val_main_v34_apply, val_main_v32_apply, val_main_v30_apply, val_main_v27_apply, val_main_v31_apply,
      val_main_v29_apply, val_main_call1_v1_apply, val_main_v33_apply, val_main_call1_v2_apply]
    rw [show idx_main_v27 (idx_main_v30 (ix2 n e)) = ix1 e from eq_ix1 _,
      show idx_main_v33 (idx_main_call1_v1 (ix2 n e)) = ix1 e from eq_ix1 _]
    rfl
  rw [h, heads hE, edge_logit x W aS aD hE, Block.ofBits_bot]
  unfold Scalar.select
  by_cases hd : dst e = n
  · rw [if_pos hd]
    exact if_pos (IntOp.cmpi_eq.mpr ((word_eq _ _).mpr hd))
  · rw [if_neg hd]
    exact if_neg fun hc => hd ((word_eq _ _).mp (IntOp.cmpi_eq.mp hc))

/-- The greatest logit into a node. -/
theorem node_peak (n : Fin 16384) : val_main_v35 (F := Ideal) x W aS aD E (ix1 n)
    = (into n).fold max ⊥ fun e => logit x W aS aD (src e) (dst e) := by
  pointwise [val_main_v35]
  rw [show val_main_cst_4 (F := Ideal) (Shape.Idx.first Gen.h_S_) = ⊥ from Block.ofBits_bot,
    funext fun e => kept_logit x W aS aD hE n e]
  show Finset.univ.sup (fun e => if dst e = n then logit x W aS aD (src e) (dst e) else ⊥)
    = (Finset.univ.filter fun e => dst e = n).sup fun e => logit x W aS aD (src e) (dst e)
  rw [Finset.sup_ite, Finset.sup_bot, sup_bot_eq]

end Cert.Gat.Ref
-- ==== Proof.Real.lean ====
module

public import proofs.«01_k».proof.Proof.Spec
public import proofs.«01_k».proof.Proof.Block

/-! Over finite inputs every hidden feature, score and logit is a real number, and the softmax over
the sixty-four edges into a node has a denominator of at least one. -/

@[expose] public section

set_option maxRecDepth 16384

open Idealize.ShloMosaic

noncomputable section

namespace Cert.Gat

/-- The extended real `z` is a real number. -/
def IsReal (z : EReal) : Prop := ∃ r : ℝ, z = (r : EReal)

namespace IsReal

/-- The sum of two reals is real. -/
theorem add {y z : EReal} (hy : IsReal y) (hz : IsReal z) : IsReal (y + z) := by
  obtain ⟨a, rfl⟩ := hy
  obtain ⟨b, rfl⟩ := hz
  exact ⟨a + b, (EReal.coe_add a b).symm⟩

/-- The product of two reals is real. -/
theorem mul {y z : EReal} (hy : IsReal y) (hz : IsReal z) : IsReal (y * z) := by
  obtain ⟨a, rfl⟩ := hy
  obtain ⟨b, rfl⟩ := hz
  exact ⟨a * b, (EReal.coe_mul a b).symm⟩

/-- A finite sum of reals is real. -/
theorem sum {ι : Type} (s : Finset ι) {f : ι → EReal} (h : ∀ i, IsReal (f i)) :
    IsReal (∑ i ∈ s, f i) := by
  classical
  induction s using Finset.induction_on with
  | empty => exact ⟨0, by simp⟩
  | insert i s hi ih => rw [Finset.sum_insert hi]; exact (h i).add ih

/-- A real less itself is zero. -/
theorem sub_self {z : EReal} (h : IsReal z) : z - z = 0 := by
  obtain ⟨r, rfl⟩ := h
  rw [← EReal.coe_sub, _root_.sub_self, EReal.coe_zero]

/-- The absolute value of a real is below infinity. -/
theorem abs_lt_top {z : EReal} (h : IsReal z) : max z (-z) < ⊤ := by
  obtain ⟨r, rfl⟩ := h
  rw [← EReal.coe_neg]
  exact max_lt (EReal.coe_lt_top _) (EReal.coe_lt_top _)

end IsReal

/-- The slope of the leaky rectifier is real. -/
theorem slope_isReal : IsReal (Ideal.ofBits .f32 0x3E4CCCCD#32) := by
  simp [Ideal.ofBits, Ideal.ieee]
  exact ⟨_, (EReal.coe_mul _ _).symm⟩

/-- The floor under the denominators is at most one. -/
theorem floor_le_one : Ideal.ofBits .f32 0x24E69595#32 ≤ 1 := by
  simp [Ideal.ofBits, Ideal.ieee]
  exact_mod_cast (by norm_num : (15111573 : ℝ) * ((2 : ℝ) ^ 77)⁻¹ ≤ 1)

/-- The leaky rectifier of a real is real. -/
theorem lrelu_isReal {z : EReal} (h : IsReal z) : IsReal (lrelu z) := by
  unfold lrelu
  split
  · exact h
  · exact slope_isReal.mul h

section
variable {x : Feat} {W : Mat} {aS aD : Vect}
  (hx : ∀ i, IsReal (x i)) (hW : ∀ i, IsReal (W i)) (hS : ∀ i, IsReal (aS i)) (hD : ∀ i, IsReal (aD i))
include hx hW

/-- The hidden features are real. -/
theorem hid_isReal (n : Fin 16384) (j : Fin 250) : IsReal (hid x W n j) :=
  IsReal.sum _ fun _ => (hx _).mul (hW _)

/-- The scores are real. -/
theorem score_isReal (hS : ∀ i, IsReal (aS i)) (n : Fin 16384) : IsReal (score x W aS n) :=
  IsReal.sum _ fun j => (hid_isReal hx hW n j).mul (hS _)

include hS hD

/-- The logits are real. -/
theorem logit_isReal (s d : Fin 16384) : IsReal (logit x W aS aD s d) :=
  lrelu_isReal ((score_isReal hx hW hS s).add (score_isReal hx hW hD d))

end

/-- The exponential of a real is at least zero; of zero it is one. -/
theorem exp_zero : Ideal.exp 0 = 1 := by
  show ((Real.exp 0 : ℝ) : EReal) = 1
  rw [Real.exp_zero, EReal.coe_one]

/-- The exponential is never negative. -/
theorem exp_nonneg (z : EReal) : 0 ≤ Ideal.exp z := by
  induction z using EReal.rec with
  | bot => exact le_refl (0 : EReal)
  | top => exact (le_top : (0 : EReal) ≤ ⊤)
  | coe r => exact EReal.coe_nonneg.mpr (Real.exp_pos r).le

/-- The largest of finitely many values is one of them. -/
theorem fold_max_mem {f : Fin 64 → EReal} : ∃ s, Finset.univ.fold max ⊥ f = f s := by
  obtain ⟨s, _, hs⟩ := Finset.exists_mem_eq_sup (Finset.univ : Finset (Fin 64)) ⟨0, Finset.mem_univ _⟩ f
  exact ⟨s, hs⟩

section
variable {x : Feat} {W : Mat} {aS aD : Vect}
  (hx : ∀ i, IsReal (x i)) (hW : ∀ i, IsReal (W i)) (hS : ∀ i, IsReal (aS i)) (hD : ∀ i, IsReal (aD i))
include hx hW hS hD

/-- The largest logit into a node is real. -/
theorem peak_isReal (d : Fin 64) : IsReal (peak x W aS aD d) := by
  obtain ⟨s, hs⟩ := fold_max_mem (f := fun s : Fin 64 => logit x W aS aD (node s) (node d))
  show IsReal (Finset.univ.fold max ⊥ fun s : Fin 64 => logit x W aS aD (node s) (node d))
  rw [hs]
  exact logit_isReal hx hW hS hD _ _

/-- The weights into a node add up to at least one: the largest logit's weight is one. -/
theorem one_le_sum_wt (d : Fin 64) : 1 ≤ ∑ s, wt x W aS aD d s := by
  obtain ⟨s, hs⟩ := fold_max_mem (f := fun s : Fin 64 => logit x W aS aD (node s) (node d))
  have hone : wt x W aS aD d s = 1 := by
    show Ideal.exp (logit x W aS aD (node s) (node d)
      - Finset.univ.fold max ⊥ fun s : Fin 64 => logit x W aS aD (node s) (node d)) = 1
    rw [hs, (logit_isReal hx hW hS hD _ _).sub_self, exp_zero]
  rw [← hone]
  exact Finset.single_le_sum (f := fun s => wt x W aS aD d s) (fun s _ => exp_nonneg _) (Finset.mem_univ s)

/-- The floor under the denominator changes nothing. -/
theorem floor_sum_wt (d : Fin 64) :
    max (Ideal.ofBits .f32 0x24E69595#32) (∑ s, wt x W aS aD d s) = ∑ s, wt x W aS aD d s :=
  max_eq_right (floor_le_one.trans (one_le_sum_wt hx hW hS hD d))

end

/-- A node whose only edge is its own loop gives that edge the weight one. -/
theorem lone_weight {z : EReal} (h : IsReal z) :
    Ideal.div (Ideal.exp (z - z)) (max (Ideal.ofBits .f32 0x24E69595#32) (Ideal.exp (z - z))) = 1 := by
  rw [h.sub_self, exp_zero, max_eq_right floor_le_one]
  simp [Ideal.div]

end Cert.Gat
-- ==== Proof.Pre.lean ====
/-
  What the precondition says: every feature, weight and attention entry is a real number, and the edge list is that of
  the complete graph on the first 64 nodes, pair by pair.
-/
module

public import proofs.«01_k».proof.Pre_finite_inputs_all_pairs
public import proofs.«01_k».proof.Proof.Edges
public import Idealize.ShloMosaic.Lib.ReduceAll
public import Idealize.ShloMosaic.Lib.Affine

@[expose] public section

set_option maxRecDepth 16384

noncomputable section

open Idealize.ShloMosaic

namespace Cert.Gat.Pre

open Cert.Pre_finite_inputs_all_pairs

/-- The shape relations the precondition's operations take. -/
theorem facts : Cert.Pre_finite_inputs_all_pairs.Facts where
  bcast_S_S2x4032 := by decide
  bcast_S_S256x64x250 := by decide
  reducesTo_S256x64x250_S_d0_1_2 := by decide
  h_S_ := by decide
  bcast_S_S250x250 := by decide
  reducesTo_S250x250_S_d0_1 := by decide
  bcast_S_S250 := by decide
  reducesTo_S250_S_d0 := by decide
  reducesTo_S2x4032_S_d0_1 := by decide

variable [Cert.Pre_finite_inputs_all_pairs.Facts]

/-- A shape with no axis has one index. -/
instance : Subsingleton S_.Idx := ⟨fun a b => funext fun i => i.elim0⟩

/-- A number whose absolute value is below the greatest extended real is a real one. -/
theorem real_of_abs_lt {z : EReal} (h : max z (-z) < ⊤) : ∃ r : ℝ, z = (r : EReal) := by
  induction z using EReal.rec with
  | bot => simp at h
  | top => simp at h
  | coe r => exact ⟨r, rfl⟩

/-- The pattern the bounds are compared with is the greatest extended real. -/
theorem ofBits_top : Ideal.ofBits .f32 0x7F800000#32 = ⊤ := by
  simp [Ideal.ofBits, Ideal.ieee]

/-- A flag saying that an absolute value is below that bound says the number is real. -/
theorem real_of_flag {z : EReal} (h : Ideal.cmp .olt (max z (-z)) (Ideal.ofBits .f32 0x7F800000#32) = 1#1) :
    ∃ r : ℝ, z = (r : EReal) := by
  rw [ofBits_top] at h
  apply real_of_abs_lt
  unfold Ideal.cmp at h
  by_contra hn
  simp [hn] at h

/-- The edge list, as the precondition computes it, at a place. -/
def listed (r e : Nat) : BitVec 32 :=
  Scalar.select (IntOp.cmpi .eq (BitVec.ofNat 32 r) 0#32)
    (IntOp.divsi .host (BitVec.ofNat 32 e) 63#32)
    (Scalar.select (IntOp.cmpi .sge (IntOp.remsi .host (BitVec.ofNat 32 e) 63#32) (IntOp.divsi .host (BitVec.ofNat 32 e) 63#32))
      (IntOp.addi (IntOp.remsi .host (BitVec.ofNat 32 e) 63#32) 1#32) (IntOp.remsi .host (BitVec.ofNat 32 e) 63#32))

/-- The first row of the list is the edges' tails. -/
theorem listed_src (a : Fin 64) (b : Fin 63) : listed 0 (63 * a.val + b.val) = BitVec.ofNat 32 a.val := by
  revert a b
  decide +kernel

/-- The second row is their heads: the tail itself is left out. -/
theorem listed_dst (a : Fin 64) (b : Fin 63) :
    listed 1 (63 * a.val + b.val) = BitVec.ofNat 32 (if a.val ≤ b.val then b.val + 1 else b.val) := by
  revert a b
  decide +kernel

/-- The precondition, read: the entries are real, the edges are the listed ones. -/
theorem split (x : FVec Ideal S256x64x250 .f32) (W : FVec Ideal S250x250 .f32) (aS aD b : FVec Ideal S250 .f32) (E : IVec S2x4032 32)
    (h : fn x W aS aD b E = fun _ => 1#1) :
    (∀ i, ∃ r : ℝ, x i = (r : EReal)) ∧ (∀ i, ∃ r : ℝ, W i = (r : EReal)) ∧ (∀ i, ∃ r : ℝ, aS i = (r : EReal))
      ∧ (∀ i, ∃ r : ℝ, aD i = (r : EReal)) ∧ ∀ i, E i = listed (i 0).val (i 1).val := by
  have h' := congrFun h (fun a => a.elim0)
  unfold fn fn_part1 at h'
  dsimp only at h'
  obtain ⟨h', hE⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  refine ⟨fun i => real_of_flag (Host.reduce_andi_all _ _ _ _ _ h0 i), fun i => real_of_flag (Host.reduce_andi_all _ _ _ _ _ h1 i),
    fun i => real_of_flag (Host.reduce_andi_all _ _ _ _ _ h2 i), fun i => real_of_flag (Host.reduce_andi_all _ _ _ _ _ h3 i), fun i => ?_⟩
  have hEi := Host.reduce_andi_all _ _ _ _ _ hE i
  exact IntOp.cmpi_eq.mp hEi

/-- The tail of the list's edge `e`. -/
theorem tail_eq (E : IVec S2x4032 32) (hE : ∀ i, E i = listed (i 0).val (i 1).val) (e : Fin 4032) :
    E (ix2 0 e) = BitVec.ofNat 32 (srcV e.val) := by
  have he := e.isLt
  have h := listed_src ⟨e.val / 63, by omega⟩ ⟨e.val % 63, by omega⟩
  rw [hE]
  show listed 0 e.val = _
  unfold srcV
  rw [if_pos he, ← h]
  congr 1
  dsimp only
  omega

/-- The head of the list's edge `e`. -/
theorem head_eq (E : IVec S2x4032 32) (hE : ∀ i, E i = listed (i 0).val (i 1).val) (e : Fin 4032) :
    E (ix2 1 e) = BitVec.ofNat 32 (dstV e.val) := by
  have he := e.isLt
  have h := listed_dst ⟨e.val / 63, by omega⟩ ⟨e.val % 63, by omega⟩
  rw [hE]
  show listed 1 e.val = _
  unfold dstV
  rw [if_pos he, ← h]
  congr 1
  dsimp only
  omega

end Cert.Gat.Pre

end
-- ==== Proof.RefValue.lean ====
module

public import proofs.«01_k».proof.Proof.RefLogit
public import proofs.«01_k».proof.Proof.Real
public import proofs.«01_k».proof.Proof.Pre

/-! What the reference computes from the greatest logits on: the weights of the edges, their sums, the
attended rows, and the result. -/

@[expose] public section

set_option maxRecDepth 16384

open Idealize.ShloMosaic
open Cert.ReferenceIdeal Cert.ReferenceIdeal.Read

noncomputable section

namespace Cert.Gat.Ref

/-- The greatest logit over the edges into a node. -/
def crest (x : Feat) (W : Mat) (aS aD : Vect) (n : Fin 16384) : EReal :=
  (into n).fold max ⊥ fun e => logit x W aS aD (src e) (dst e)

/-- The unscaled weight of an edge. -/
def mass (x : Feat) (W : Mat) (aS aD : Vect) (e : Fin 20416) : EReal :=
  Ideal.exp (logit x W aS aD (src e) (dst e) - crest x W aS aD (dst e))

/-- The weights of the edges into a node, added up. -/
def total (x : Feat) (W : Mat) (aS aD : Vect) (n : Fin 16384) : EReal :=
  ∑ e ∈ into n, mass x W aS aD e

/-- Keeping a value only where its absolute value is below infinity keeps every real. -/
theorem keep_finite {z : EReal} (h : IsReal z) (w : EReal) :
    Scalar.select (FloatOps.cmpf (F := Ideal) (φ := .f32) .olt (FloatOps.hostAbsf (F := Ideal) (φ := .f32) z)
      (Ideal.ofBits .f32 0x7F800000#32)) z w = z := by
  have hc : FloatOps.cmpf (F := Ideal) (φ := .f32) .olt (FloatOps.hostAbsf (F := Ideal) (φ := .f32) z)
      (Ideal.ofBits .f32 0x7F800000#32) = 1#1 := by
    show BitVec.ofBool (decide (max z (-z) < Ideal.ofBits .f32 0x7F800000#32)) = 1#1
    haveI := Pre.facts
    rw [Pre.ofBits_top, decide_eq_true h.abs_lt_top]
    rfl
  rw [hc]
  rfl

/-- The loop at a node enters it. -/
theorem dst_loop (n : Fin 16384) (hn : 64 ≤ n.val) : dst (loop n) = n := by
  have h : loop n ∈ into n := by
    rw [into_far n hn]
    exact Finset.mem_singleton_self _
  exact (Finset.mem_filter.mp h).2

/-- The greatest logit into one of the first nodes. -/
theorem crest_node (x : Feat) (W : Mat) (aS aD : Vect) (d : Fin 64) :
    crest x W aS aD (node d) = peak x W aS aD d := by
  unfold crest peak
  rw [fold_into_node]
  simp only [src_edge, dst_edge]

/-- The greatest logit into a node past the first ones is its loop's. -/
theorem crest_far (x : Feat) (W : Mat) (aS aD : Vect) (n : Fin 16384) (hn : 64 ≤ n.val) :
    crest x W aS aD n = logit x W aS aD n n := by
  unfold crest
  rw [into_far n hn, Finset.fold_singleton, src_loop, dst_loop n hn]
  exact max_bot_right _

/-- The weight of an edge between two of the first nodes. -/
theorem mass_edge (x : Feat) (W : Mat) (aS aD : Vect) (d s : Fin 64) :
    mass x W aS aD (edge d s) = wt x W aS aD d s := by
  unfold mass wt
  rw [src_edge, dst_edge, crest_node]

section
variable {x : Feat} {W : Mat} {aS aD : Vect}
  (hx : ∀ i, IsReal (x i)) (hW : ∀ i, IsReal (W i)) (hS : ∀ i, IsReal (aS i)) (hD : ∀ i, IsReal (aD i))
include hx hW hS hD

/-- The greatest logit into any node is real. -/
theorem crest_isReal (n : Fin 16384) : IsReal (crest x W aS aD n) := by
  by_cases hn : n.val < 64
  · rw [show n = node ⟨n.val, hn⟩ from rfl, crest_node]
    exact peak_isReal hx hW hS hD _
  · rw [crest_far x W aS aD n (by omega)]
    exact logit_isReal hx hW hS hD n n

end

variable [Cert.ReferenceIdeal.Facts]
variable {x : Feat} {W : Mat} {aS aD : Vect} {E : IVec S2x4032 32}
  (hx : ∀ i, IsReal (x i)) (hW : ∀ i, IsReal (W i)) (hS : ∀ i, IsReal (aS i)) (hD : ∀ i, IsReal (aD i))
  (hE : Listed E)
include hx hW hS hD hE

/-- The greatest logit into a node is finite, so the reference keeps it. -/
theorem kept_peak (n : Fin 16384) :
    val_main_v39 (F := Ideal) x W aS aD E (ix1 n) = crest x W aS aD n := by
  have h : val_main_v35 (F := Ideal) x W aS aD E (ix1 n) = crest x W aS aD n := node_peak x W aS aD hE n
  rw [val_main_v39_apply, val_main_v38_apply, val_main_v36_apply, h, val_main_v37_apply, val_main_cst_5_apply]
  exact keep_finite (crest_isReal hx hW hS hD n) _

/-- The weight of an edge before scaling. -/
theorem edge_mass (e : Fin 20416) :
    val_main_v48 (F := Ideal) x W aS aD E (ix1 e) = mass x W aS aD e := by
  have h : val_main_v46 (F := Ideal) x W aS aD E (ix1 e) = crest x W aS aD (dst e) :=
    (Index.take_entry _ _ e (dst e) (col45 hE e)).trans (kept_peak hx hW hS hD hE (dst e))
  have h' : val_main_v48 (F := Ideal) x W aS aD E (ix1 e) = Ideal.exp
      (val_main_v26 (F := Ideal) x W aS aD E (ix1 e) - val_main_v46 (F := Ideal) x W aS aD E (ix1 e)) := rfl
  rw [h', h, edge_logit x W aS aD hE]
  rfl

/-- The sum of the weights into a node. -/
theorem node_total (n : Fin 16384) :
    val_main_v51 (F := Ideal) x W aS aD E (ix1 n) = total x W aS aD n := by
  have h : val_main_v51 (F := Ideal) x W aS aD E (ix1 n) = val_main_v49 (F := Ideal) (ix1 n)
      + ∑ e ∈ into n, val_main_v48 (F := Ideal) x W aS aD E (ix1 e) :=
    Index.add_entries _ _ _ dst (col50 hE) n
  have hz : val_main_v49 (F := Ideal) (ix1 n) = 0 := by
    pointwise [val_main_v49, val_main_cst_9]
  rw [h, hz, zero_add]
  exact Finset.sum_congr rfl fun e _ => edge_mass hx hW hS hD hE e

/-- The scaled weight of an edge. -/
theorem edge_share (e : Fin 20416) : val_main_v60 (F := Ideal) x W aS aD E (ix1 e)
    = Ideal.div (mass x W aS aD e) (max (Ideal.ofBits .f32 0x24E69595#32) (total x W aS aD (dst e))) := by
  have h : val_main_v58 (F := Ideal) x W aS aD E (ix1 e) = total x W aS aD (dst e) :=
    (Index.take_entry _ _ e (dst e) (col57 hE e)).trans (node_total hx hW hS hD hE (dst e))
  have h' : val_main_v60 (F := Ideal) x W aS aD E (ix1 e) = Ideal.div
      (val_main_v48 (F := Ideal) x W aS aD E (ix1 e))
      (max (Ideal.ofBits .f32 0x24E69595#32) (val_main_v58 (F := Ideal) x W aS aD E (ix1 e))) := by
    rw [val_main_v60_apply, val_main_v59_apply]
    rfl
  rw [h', h, edge_mass hx hW hS hD hE]

/-- The row an edge carries. -/
theorem edge_row (e : Fin 20416) (j : Fin 250) : val_main_v70 (F := Ideal) x W aS aD E (ix2 e j)
    = Ideal.div (mass x W aS aD e) (max (Ideal.ofBits .f32 0x24E69595#32) (total x W aS aD (dst e)))
      * hid x W (src e) j := by
  have h : val_main_v68 (F := Ideal) x W E (ix2 e j) = hid x W (src e) j :=
    (Index.take_row _ _ e j (src e) (col67 hE e)).trans (hidden x W (src e) j)
  have h' : val_main_v70 (F := Ideal) x W aS aD E (ix2 e j)
      = val_main_v60 (F := Ideal) x W aS aD E (ix1 e) * val_main_v68 (F := Ideal) x W E (ix2 e j) := by
    pointwise [val_main_v70, val_main_v69, val_main_v61]
  rw [h', h, edge_share hx hW hS hD hE]

/-- The rows into a node, added up. -/
theorem node_row (n : Fin 16384) (j : Fin 250) : val_main_v73 (F := Ideal) x W aS aD E (ix2 n j)
    = ∑ e ∈ into n, Ideal.div (mass x W aS aD e)
        (max (Ideal.ofBits .f32 0x24E69595#32) (total x W aS aD (dst e))) * hid x W (src e) j := by
  have h : val_main_v73 (F := Ideal) x W aS aD E (ix2 n j) = val_main_v71 (F := Ideal) (ix2 n j)
      + ∑ e ∈ into n, val_main_v70 (F := Ideal) x W aS aD E (ix2 e j) :=
    Index.add_rows _ _ _ dst (col72 hE) n j
  have hz : val_main_v71 (F := Ideal) (ix2 n j) = 0 := by
    pointwise [val_main_v71, val_main_cst_15]
  rw [h, hz, zero_add]
  exact Finset.sum_congr rfl fun e _ => edge_row hx hW hS hD hE e j

omit hE [Cert.ReferenceIdeal.Facts] in
/-- For one of the first nodes the sum is the attention over the sixty-four. -/
theorem near_row (d : Fin 64) (j : Fin 250) :
    ∑ e ∈ into (node d), Ideal.div (mass x W aS aD e)
        (max (Ideal.ofBits .f32 0x24E69595#32) (total x W aS aD (dst e))) * hid x W (src e) j
      = att x W aS aD d j := by
  have ht : total x W aS aD (node d) = ∑ s, wt x W aS aD d s := by
    unfold total
    rw [sum_into_node]
    exact Finset.sum_congr rfl fun s _ => mass_edge x W aS aD d s
  rw [sum_into_node]
  refine Finset.sum_congr rfl fun s _ => ?_
  rw [mass_edge, dst_edge, src_edge, ht, floor_sum_wt hx hW hS hD]

omit hE [Cert.ReferenceIdeal.Facts] in
/-- For any other node it is the node's own hidden row. -/
theorem far_row (n : Fin 16384) (hn : 64 ≤ n.val) (j : Fin 250) :
    ∑ e ∈ into n, Ideal.div (mass x W aS aD e)
        (max (Ideal.ofBits .f32 0x24E69595#32) (total x W aS aD (dst e))) * hid x W (src e) j
      = hid x W n j := by
  have hm : mass x W aS aD (loop n) = Ideal.exp (logit x W aS aD n n - logit x W aS aD n n) := by
    unfold mass
    rw [src_loop, dst_loop n hn, crest_far x W aS aD n hn]
  have ht : total x W aS aD n = mass x W aS aD (loop n) := by
    unfold total
    rw [into_far n hn, Finset.sum_singleton]
  rw [into_far n hn, Finset.sum_singleton, dst_loop n hn, src_loop, ht, hm,
    lone_weight (logit_isReal hx hW hS hD n n), one_mul]

/-- The reference's rows, bias included. -/
theorem row_value (b : Vect) (n : Fin 16384) (j : Fin 250) :
    val_main_v76 (F := Ideal) x W aS aD b E (ix2 n j) = out x W aS aD b n j := by
  have h : val_main_v76 (F := Ideal) x W aS aD b E (ix2 n j)
      = val_main_v73 (F := Ideal) x W aS aD E (ix2 n j) + b (ix1 j) := by
    pointwise [val_main_v76, val_main_v75, val_main_v74]
  rw [h, node_row hx hW hS hD hE]
  unfold out
  by_cases hn : n.val < 64
  · rw [dif_pos hn, ← near_row hx hW hS hD ⟨n.val, hn⟩ j]
    rfl
  · rw [dif_neg hn, far_row hx hW hS hD n (by omega) j]

/-- The reference's result. -/
theorem value (b : Vect) (i : S256x64x250.Idx) :
    val_main_v77 (F := Ideal) x W aS aD b E i
      = out x W aS aD b ⟨64 * (i 0).val + (i 1).val, by
          have h0 : (i 0).val < 256 := (i 0).isLt
          have h1 : (i 1).val < 64 := (i 1).isLt
          omega⟩ (i 2) := by
  have h0 : (i 0).val < 256 := (i 0).isLt
  have h1 : (i 1).val < 64 := (i 1).isLt
  have h2 : (i 2).val < 250 := (i 2).isLt
  rw [val_main_v77_apply]
  refine (congrArg (val_main_v76 (F := Ideal) x W aS aD b E) ?_).trans
    (row_value hx hW hS hD hE b ⟨64 * (i 0).val + (i 1).val, by omega⟩ (i 2))
  funext a
  refine Fin.ext ?_
  match a with
  | ⟨0, _⟩ =>
    show (((i 0).val * 64 + (i 1).val) * 250 + (i 2).val) / 250 = 64 * (i 0).val + (i 1).val
    omega
  | ⟨1, _⟩ =>
    show (((i 0).val * 64 + (i 1).val) * 250 + (i 2).val) % 250 = (i 2).val
    omega

end Cert.Gat.Ref
-- ==== Proof.KernelValue.lean ====
/-
  What the kernel's result array holds after the run: the layer's `out` at every index. Two blocks of 128 batch entries
  tile the array; the first has its first entry's rows overwritten by the attention rows, the second is stored once.
-/
module

public import proofs.«01_k».proof.Proof.Block
public import proofs.«01_k».proof.Proof.Gen.KernelIdeal.Value
public import Idealize.ShloMosaic.Lib.StableHlo.Run
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Gat.Kernel

open Cert.KernelIdeal Cert.KernelIdeal.Gen

variable (m : (ℓ : Loc nD τ sig) → Buf (Elt Ideal) ℓ) (ρ : Dev nD → PrngReg)

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The features device `c` starts with. -/
abbrev X (c : Dev nD) : Feat := m ((c : Thread nD τ).loc main_arg0)
/-- The projection device `c` starts with. -/
abbrev Wm (c : Dev nD) : Mat := m ((c : Thread nD τ).loc main_arg1)
/-- The attention vector of the edge's tail. -/
abbrev Src (c : Dev nD) : Vect := m ((c : Thread nD τ).loc main_arg2)
/-- The attention vector of the edge's head. -/
abbrev Dst (c : Dev nD) : Vect := m ((c : Thread nD τ).loc main_arg3)
/-- The bias. -/
abbrev Bias (c : Dev nD) : Vect := m ((c : Thread nD τ).loc main_arg4)

/-- The first attention vector, reshaped to a column before the kernel starts. -/
theorem V_v0 (c : Dev nD) (j : Fin 250) : V m c main_v0 (ix2 j 0) = Src m c (ix1 j) := by
  have e : V m c main_v0 = shapeCast S250x1 (m ((c : Thread nD τ).loc main_arg2)) shapeCasts_S250_S250x1 := by
    show StableHlo.after hostOps0 _ (Proc.devRef .tc main_v0) = _
    after_results
    rfl
  rw [e]
  show shapeCast S250x1 (Src m c) _ _ = Src m c _
  generalize Src m c = v
  pointwise []

/-- The second one, likewise. -/
theorem V_v1 (c : Dev nD) (j : Fin 250) : V m c main_v1 (ix2 j 0) = Dst m c (ix1 j) := by
  have e : V m c main_v1 = shapeCast S250x1 (m ((c : Thread nD τ).loc main_arg3)) shapeCasts_S250_S250x1 := by
    show StableHlo.after hostOps0 _ (Proc.devRef .tc main_v1) = _
    after_results
    rfl
  rw [e]
  show shapeCast S250x1 (Dst m c) _ _ = Dst m c _
  generalize Dst m c = v
  pointwise []

/-- The bias, reshaped to a row. -/
theorem V_v2 (c : Dev nD) (j : Fin 250) : V m c main_v2 (ix2 0 j) = Bias m c (ix1 j) := by
  have e : V m c main_v2 = shapeCast S1x250 (m ((c : Thread nD τ).loc main_arg4)) shapeCasts_S250_S1x250 := by
    show StableHlo.after hostOps0 _ (Proc.devRef .tc main_v2) = _
    after_results
    rfl
  rw [e]
  show shapeCast S1x250 (Bias m c) _ _ = Bias m c _
  generalize Bias m c = v
  pointwise []

/-- What the first point leaves in the output's staging buffer: the attention rows over the projected block. -/
theorem out_A (c : Dev nD) (i : grid0.Coords) (a1 : Memref sig .tc .vmem S128x64x250 .f32) (h1 : a1.IsWhole)
    (a2 : Memref sig .tc .vmem S250x250 .f32) (h2 : a2.IsWhole) (a3 : Memref sig .tc .vmem S250x1 .f32) (h3 : a3.IsWhole)
    (a4 : Memref sig .tc .vmem S250x1 .f32) (h4 : a4.IsWhole) (a5 : Memref sig .tc .vmem S1x250 .f32) (h5 : a5.IsWhole)
    (a6 : Memref sig .tc .vmem S128x64x250 .f32) (h6 : a6.IsWhole) (hc : cond0_0 i)
    (x0 : Vec Ideal S128x64x250 .f32) (x1 : Vec Ideal S250x250 .f32) (x2 x3 : Vec Ideal S250x1 .f32) (x4 : Vec Ideal S1x250 .f32) :
    out0_A_5 c i a1 h1 a2 h2 a3 h3 a4 h4 a5 h5 a6 h6 hc x0 x1 x2 x3 x4
      = View.canon [⟨Rect.unit (s := S128x64x250) ![0, 0, 0] S1x64x250.size inb_S128x64x250_S1x64x250_0_0_0, k0_pay3 x0 x1 x2 x3 x4⟩,
          ⟨Rect.unit (s := S128x64x250) ![0, 0, 0] S128x64x250.size inb_S128x64x250_S128x64x250_0_0_0, k0_pay2 x0 x1 x4⟩] := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  simp only [View.readAt_eq_ld, h1.read_unread, h2.read_unread, h3.read_unread, h4.read_unread, h5.read_unread,
    View.ld_unit_zero (S := S128x64x250) hz3, View.ld_unit_zero (S := S250x250) hz2, View.ld_unit_zero (S := S250x1) hz2,
    View.ld_unit_zero (S := S1x250) hz2]

/-- What the second point leaves there: the projected block. -/
theorem out_B (c : Dev nD) (i : grid0.Coords) (a1 : Memref sig .tc .vmem S128x64x250 .f32) (h1 : a1.IsWhole)
    (a2 : Memref sig .tc .vmem S250x250 .f32) (h2 : a2.IsWhole) (a3 : Memref sig .tc .vmem S250x1 .f32) (h3 : a3.IsWhole)
    (a4 : Memref sig .tc .vmem S250x1 .f32) (h4 : a4.IsWhole) (a5 : Memref sig .tc .vmem S1x250 .f32) (h5 : a5.IsWhole)
    (a6 : Memref sig .tc .vmem S128x64x250 .f32) (h6 : a6.IsWhole) (hc : ¬cond0_0 i)
    (x0 : Vec Ideal S128x64x250 .f32) (x1 : Vec Ideal S250x250 .f32) (x2 x3 : Vec Ideal S250x1 .f32) (x4 : Vec Ideal S1x250 .f32) :
    out0_B_5 c i a1 h1 a2 h2 a3 h3 a4 h4 a5 h5 a6 h6 hc x0 x1 x2 x3 x4 = k0_pay2 x0 x1 x4 := by
  unfold out0_B_5
  rw [View.read_writes_eq_canon _ _ _ (cover0_B_5 c i a1 h1 a2 h2 a3 h3 a4 h4 a5 h5 a6 h6 hc x0 x1 x2 x3 x4)]
  unfold kernelRun0_B
  dsimp only
  sl_unfold_words
  rw [View.canon_unit_zero (S := S128x64x250) hz3]
  simp only [View.readAt_eq_ld, h1.read_unread, h2.read_unread, h5.read_unread,
    View.ld_unit_zero (S := S128x64x250) hz3, View.ld_unit_zero (S := S250x250) hz2, View.ld_unit_zero (S := S1x250) hz2]

/-- Where each window's block starts, at each of the two points. -/
theorem index_facts (t : Fin cfg0.N) :
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0 ∧ win0_5.index t 2 = 0) := by
  rcases fin_N0 t with rfl | rfl <;> decide +kernel

/-- There are two points. -/
theorem t_lt (t : Fin cfg0.N) : t.val < 2 := lt_of_lt_of_eq t.isLt N_0

/-- The block of the features staged at point `t`: batch entries from `128 t`. -/
theorem iblk0_apply (c : Dev nD) (t : Fin cfg0.N) (p : Fin 128) (q : Fin 64) (k : Fin 250) :
    iblk m c 0 t (ix3 p q k) = X m c (ix3 ⟨128 * t.val + p.val, by have := t_lt t; omega⟩ q k) := by
  unfold iblk
  show V m c main_arg0 ((win0_0.rect t).emb (ix3 p q k)) = _
  rw [V_main_arg0]
  refine congrArg _ (funext fun a => Fin.ext ?_)
  obtain ⟨e0, e1, e2⟩ := (index_facts t).1
  match a with
  | ⟨0, _⟩ => exact ((win0_0.rect_emb_val t (ix3 p q k) 0).trans (by rw [e0]; show t.val * 128 + p.val = 128 * t.val + p.val; omega))
  | ⟨1, _⟩ => exact win0_0.rect_emb_val_of_index_zero t 1 e1 (ix3 p q k)
  | ⟨2, _⟩ => exact win0_0.rect_emb_val_of_index_zero t 2 e2 (ix3 p q k)

/-- The projection is staged whole. -/
theorem iblk1_eq (c : Dev nD) (t : Fin cfg0.N) : iblk m c 1 t = Wm m c := by
  funext y
  unfold iblk
  show V m c main_arg1 ((win0_1.rect t).emb y) = _
  rw [V_main_arg1]
  refine congrArg _ (funext fun a => Fin.ext ?_)
  obtain ⟨e0, e1⟩ := (index_facts t).2.1
  match a with
  | ⟨0, _⟩ => exact win0_1.rect_emb_val_of_index_zero t 0 e0 y
  | ⟨1, _⟩ => exact win0_1.rect_emb_val_of_index_zero t 1 e1 y

/-- The first attention column is staged whole. -/
theorem iblk2_apply (c : Dev nD) (t : Fin cfg0.N) (j : Fin 250) : iblk m c 2 t (ix2 j 0) = Src m c (ix1 j) := by
  rw [← V_v0]
  unfold iblk
  show V m c main_v0 ((win0_2.rect t).emb (ix2 j 0)) = _
  refine congrArg _ (funext fun a => Fin.ext ?_)
  obtain ⟨e0, e1⟩ := (index_facts t).2.2.1
  match a with
  | ⟨0, _⟩ => exact win0_2.rect_emb_val_of_index_zero t 0 e0 _
  | ⟨1, _⟩ => exact win0_2.rect_emb_val_of_index_zero t 1 e1 _

/-- The second attention column is staged whole. -/
theorem iblk3_apply (c : Dev nD) (t : Fin cfg0.N) (j : Fin 250) : iblk m c 3 t (ix2 j 0) = Dst m c (ix1 j) := by
  rw [← V_v1]
  unfold iblk
  show V m c main_v1 ((win0_3.rect t).emb (ix2 j 0)) = _
  refine congrArg _ (funext fun a => Fin.ext ?_)
  obtain ⟨e0, e1⟩ := (index_facts t).2.2.2.1
  match a with
  | ⟨0, _⟩ => exact win0_3.rect_emb_val_of_index_zero t 0 e0 _
  | ⟨1, _⟩ => exact win0_3.rect_emb_val_of_index_zero t 1 e1 _

/-- The bias row is staged whole. -/
theorem iblk4_apply (c : Dev nD) (t : Fin cfg0.N) (j : Fin 250) : iblk m c 4 t (ix2 0 j) = Bias m c (ix1 j) := by
  rw [← V_v2]
  unfold iblk
  show V m c main_v2 ((win0_4.rect t).emb (ix2 0 j)) = _
  refine congrArg _ (funext fun a => Fin.ext ?_)
  obtain ⟨e0, e1⟩ := (index_facts t).2.2.2.2.1
  match a with
  | ⟨0, _⟩ => exact win0_4.rect_emb_val_of_index_zero t 0 e0 _
  | ⟨1, _⟩ => exact win0_4.rect_emb_val_of_index_zero t 1 e1 _

/-- The whole result: the layer's output at node `64 i₀ + i₁`, feature `i₂`. -/
def result (c : Dev nD) : Buf (Elt Ideal) ((c : Thread nD τ).loc main_v3) := fun i : S256x64x250.Idx =>
  out (X m c) (Wm m c) (Src m c) (Dst m c) (Bias m c)
    ⟨64 * (i 0).val + (i 1).val, by have h0 : (i 0).val < 256 := (i 0).isLt; have h1 : (i 1).val < 64 := (i 1).isLt; omega⟩ (i 2)

/-- The result read at a place of block `t`. -/
theorem result_emb (c : Dev nD) (t : Fin cfg0.N) (p : Fin 128) (q : Fin 64) (j : Fin 250) :
    result m c ((win0_5.rect t).emb (ix3 p q j))
      = out (X m c) (Wm m c) (Src m c) (Dst m c) (Bias m c)
          ⟨8192 * t.val + 64 * p.val + q.val, by have := t_lt t; omega⟩ j := by
  obtain ⟨e0, e1, e2⟩ := (index_facts t).2.2.2.2.2
  have h0 : ((win0_5.rect t).emb (ix3 p q j) 0 : Nat) = t.val * 128 + p.val :=
    (win0_5.rect_emb_val t (ix3 p q j) 0).trans (by rw [e0]; rfl)
  have h1 : ((win0_5.rect t).emb (ix3 p q j) 1 : Nat) = q.val := win0_5.rect_emb_val_of_index_zero t 1 e1 (ix3 p q j)
  have h2 : ((win0_5.rect t).emb (ix3 p q j) 2 : Nat) = j.val := win0_5.rect_emb_val_of_index_zero t 2 e2 (ix3 p q j)
  unfold result
  congr 1
  · apply Fin.ext
    show 64 * ((win0_5.rect t).emb (ix3 p q j) 0 : Nat) + ((win0_5.rect t).emb (ix3 p q j) 1 : Nat) = _
    rw [h0, h1]
    show _ = 8192 * t.val + 64 * p.val + q.val
    omega
  · exact Fin.ext h2

/-- An index of a block is in the rows stored second exactly when it is in the block's first batch entry. -/
theorem mem_first (y : S128x64x250.Idx) :
    y ∈ (Rect.unit (s := S128x64x250) ![0, 0, 0] S1x64x250.size inb_S128x64x250_S1x64x250_0_0_0).set ↔ (y 0).val = 0 := by
  rw [Rect.mem_set_unit]
  have h1 : (y 1).val < 64 := (y 1).isLt
  have h2 : (y 2).val < 250 := (y 2).isLt
  refine ⟨fun h => ?_, fun h a => ?_⟩
  · have : 0 ≤ (y 0).val ∧ (y 0).val < 0 + 1 := h 0
    omega
  · match a with
    | ⟨0, _⟩ => show 0 ≤ (y 0).val ∧ (y 0).val < 0 + 1; omega
    | ⟨1, _⟩ => show 0 ≤ (y 1).val ∧ (y 1).val < 0 + 64; omega
    | ⟨2, _⟩ => show 0 ≤ (y 2).val ∧ (y 2).val < 0 + 250; omega

/-- A last store read back at a place of its rectangle is what it stored there. -/
theorem canon_at {S : Shape} (r : Rect S) (w : r.shape.Idx → Elt Ideal .f32) (L : List (View.Piece (Elt Ideal) S .f32))
    (z : r.shape.Idx) (y : S.Idx) (h : y = r.emb z) : View.canon ((⟨r, w⟩ : View.Piece (Elt Ideal) S .f32) :: L) y = w z := by
  subst h
  exact View.canon_cons_emb r w L z

/-- Off its rectangle, what the stores before it left. -/
theorem canon_off {S : Shape} (r : Rect S) (w : r.shape.Idx → Elt Ideal .f32) (L : List (View.Piece (Elt Ideal) S .f32))
    (y : S.Idx) (h : y ∉ r.set) : View.canon ((⟨r, w⟩ : View.Piece (Elt Ideal) S .f32) :: L) y = View.canon L y :=
  View.canon_cons_of_not_mem _ L h

/-- The two stores of the first point, read back: the second store's rows in the first batch entry, else the first's. -/
theorem canon_apply (w3 : Vec Ideal S1x64x250 .f32) (w2 : Vec Ideal S128x64x250 .f32) (p : Fin 128) (q : Fin 64) (j : Fin 250) :
    View.canon (Val := Elt Ideal) (s := S128x64x250) (e := .f32)
        [⟨Rect.unit (s := S128x64x250) ![0, 0, 0] S1x64x250.size inb_S128x64x250_S1x64x250_0_0_0, w3⟩,
          ⟨Rect.unit (s := S128x64x250) ![0, 0, 0] S128x64x250.size inb_S128x64x250_S128x64x250_0_0_0, w2⟩] (ix3 p q j)
      = if p.val = 0 then w3 (ix3 0 q j) else w2 (ix3 p q j) := by
  by_cases hp : p.val = 0
  · have e : (ix3 p q j : S128x64x250.Idx)
        = (Rect.unit (s := S128x64x250) ![0, 0, 0] S1x64x250.size inb_S128x64x250_S1x64x250_0_0_0).emb (ix3 (0 : Fin 1) q j) := by
      funext a
      apply Fin.ext
      rw [Rect.emb_apply]
      match a with
      | ⟨0, _⟩ => show p.val = 0 + 1 * 0; omega
      | ⟨1, _⟩ => show q.val = 0 + 1 * q.val; omega
      | ⟨2, _⟩ => show j.val = 0 + 1 * j.val; omega
    rw [if_pos hp]
    exact canon_at (Rect.unit (s := S128x64x250) ![0, 0, 0] S1x64x250.size inb_S128x64x250_S1x64x250_0_0_0) w3 _ _ _ e
  · rw [if_neg hp]
    have hn : (ix3 p q j : S128x64x250.Idx)
        ∉ (Rect.unit (s := S128x64x250) ![0, 0, 0] S1x64x250.size inb_S128x64x250_S1x64x250_0_0_0).set :=
      fun h => hp ((mem_first (ix3 p q j)).mp h)
    refine (canon_off _ w3 _ _ hn).trans ?_
    rw [View.canon_unit_zero (S := S128x64x250) hz3]

/-- What the first point writes back, at an index: its block of the result. -/
theorem first_apply (c : Dev nD) (t : Fin cfg0.N) (ht : t.val = 0) (p : Fin 128) (q : Fin 64) (j : Fin 250) :
    (if p.val = 0 then k0_pay3 (iblk m c 0 t) (Wm m c) (iblk m c 2 t) (iblk m c 3 t) (iblk m c 4 t) (ix3 0 q j)
      else k0_pay2 (iblk m c 0 t) (Wm m c) (iblk m c 4 t) (ix3 p q j))
      = out (X m c) (Wm m c) (Src m c) (Dst m c) (Bias m c)
          ⟨8192 * t.val + 64 * p.val + q.val, by have := t_lt t; omega⟩ j := by
  have hX := iblk0_apply m c t
  unfold out
  by_cases hp : p.val = 0
  · rw [if_pos hp, dif_pos (show 8192 * t.val + 64 * p.val + q.val < 64 by omega)]
    have hX0 (p : Fin 128) (q : Fin 64) (k : Fin 250) :
        iblk m c 0 t (ix3 p q k) = X m c (ix3 ⟨128 * 0 + p.val, by omega⟩ q k) := by
      rw [hX p q k]
      congr 2
      exact Fin.ext (by dsimp only; omega)
    refine (Block.pay3_apply hX0 (iblk2_apply m c t) (iblk3_apply m c t) (iblk4_apply m c t) q j).trans ?_
    congr 2
    apply Fin.ext
    show q.val = 8192 * t.val + 64 * p.val + q.val
    omega
  · rw [if_neg hp, dif_neg (show ¬ 8192 * t.val + 64 * p.val + q.val < 64 by omega)]
    exact Block.pay2_apply t.val (t_lt t) hX (iblk4_apply m c t) p q j

/-- What the second point writes back, at an index: its block of the result. -/
theorem second_apply (c : Dev nD) (t : Fin cfg0.N) (ht : t.val = 1) (p : Fin 128) (q : Fin 64) (j : Fin 250) :
    k0_pay2 (iblk m c 0 t) (Wm m c) (iblk m c 4 t) (ix3 p q j)
      = out (X m c) (Wm m c) (Src m c) (Dst m c) (Bias m c)
          ⟨8192 * t.val + 64 * p.val + q.val, by have := t_lt t; omega⟩ j := by
  unfold out
  rw [dif_neg (show ¬ 8192 * t.val + 64 * p.val + q.val < 64 by omega)]
  exact Block.pay2_apply t.val (t_lt t) (iblk0_apply m c t) (iblk4_apply m c t) p q j

/-- What a point writes back is its block of the result. -/
theorem flushed_eq (c : Dev nD) (t : Fin cfg0.N) :
    (dats m 0 c).flushed 5 t = ((cfg0.win 5).blk t).view.read (Elt Ideal) (result m c) := by
  by_cases h0 : t.val % 2 = 0
  · have ht : t.val = 0 := by have := t_lt t; omega
    rw [Cert.KernelIdeal.Value.flushed5_A m c t h0, out_A, iblk1_eq]
    funext y
    obtain ⟨p, q, j, rfl⟩ : ∃ (p : Fin 128) (q : Fin 64) (j : Fin 250), y = ix3 p q j := ⟨y 0, y 1, y 2, eq_ix3 y⟩
    exact (canon_apply _ _ p q j).trans ((first_apply m c t ht p q j).trans (result_emb m c t p q j).symm)
  · have ht : t.val = 1 := by have := t_lt t; omega
    rw [Cert.KernelIdeal.Value.flushed5_B m c t h0, out_B, iblk1_eq]
    funext y
    obtain ⟨p, q, j, rfl⟩ : ∃ (p : Fin 128) (q : Fin 64) (j : Fin 250), y = ix3 p q j := ⟨y 0, y 1, y 2, eq_ix3 y⟩
    exact (second_apply m c t ht p q j).trans (result_emb m c t p q j).symm

/-- An index of the result is in point `t`'s block exactly when its batch entry is among the point's 128. -/
theorem mem_blk (t : Fin cfg0.N) (i : S256x64x250.Idx) :
    i ∈ ((cfg0.win 5).blk t).view.set ↔ t.val * 128 ≤ (i 0 : Nat) ∧ (i 0 : Nat) < t.val * 128 + 128 := by
  show i ∈ ((View.whole main_v3).slice (win0_5.rect t)).set ↔ _
  rw [View.set_slice_whole, Rect.mem_set_unit]
  have h1 : (i 1 : Nat) < 64 := (i 1).isLt
  have h2 : (i 2 : Nat) < 250 := (i 2).isLt
  have e : (win0_5.index t 0 * win0_5.size 0 = t.val * 128 ∧ win0_5.xsize (grid0.coords t) 0 = 128)
      ∧ (win0_5.index t 1 * win0_5.size 1 = 0 ∧ win0_5.xsize (grid0.coords t) 1 = 64)
      ∧ (win0_5.index t 2 * win0_5.size 2 = 0 ∧ win0_5.xsize (grid0.coords t) 2 = 250) := by
    rcases fin_N0 t with rfl | rfl <;> decide +kernel
  obtain ⟨⟨a0, b0⟩, ⟨a1, b1⟩, ⟨a2, b2⟩⟩ := e
  refine ⟨fun h => ?_, fun h a => ?_⟩
  · have : win0_5.index t 0 * win0_5.size 0 ≤ (i 0 : Nat)
        ∧ (i 0 : Nat) < win0_5.index t 0 * win0_5.size 0 + win0_5.xsize (grid0.coords t) 0 := h 0
    rw [a0, b0] at this
    exact this
  · match a with
    | ⟨0, _⟩ =>
      show win0_5.index t 0 * win0_5.size 0 ≤ (i 0 : Nat)
        ∧ (i 0 : Nat) < win0_5.index t 0 * win0_5.size 0 + win0_5.xsize (grid0.coords t) 0
      rw [a0, b0]; exact h
    | ⟨1, _⟩ =>
      show win0_5.index t 1 * win0_5.size 1 ≤ (i 1 : Nat)
        ∧ (i 1 : Nat) < win0_5.index t 1 * win0_5.size 1 + win0_5.xsize (grid0.coords t) 1
      rw [a1, b1]; omega
    | ⟨2, _⟩ =>
      show win0_5.index t 2 * win0_5.size 2 ≤ (i 2 : Nat)
        ∧ (i 2 : Nat) < win0_5.index t 2 * win0_5.size 2 + win0_5.xsize (grid0.coords t) 2
      rw [a2, b2]; omega

/-- The two blocks cover the result. -/
theorem cover (i : S256x64x250.Idx) : ∃ t : Fin cfg0.N, (cfg0.win 5).flush t = true ∧ i ∈ ((cfg0.win 5).blk t).view.set := by
  have h0 : (i 0 : Nat) < 256 := (i 0).isLt
  have hN : cfg0.N = 2 := N_0
  refine ⟨⟨(i 0 : Nat) / 128, by omega⟩, flush0_5 _, ?_⟩
  rw [mem_blk]
  dsimp only
  omega

/-- So the result array ends holding the layer's output. -/
theorem final (c : Dev nD) : (dats m 0 c).arrAt 5 cfg0.N = result m c :=
  (dats m 0 c).arrAt_eq_of_cover 5 (result m c) (fun t _ => flushed_eq m c t) cover

/-- The run: the result array holds the layer's output, the arguments are as they were. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

end Cert.Gat.Kernel

end
-- ==== Proof.Equation.lean ====
module

public import proofs.«01_k».proof.Proof.RefValue
public import proofs.«01_k».proof.Proof.KernelValue

/-! Under the precondition the array the reference leaves is the array the kernel leaves. -/

@[expose] public section

set_option maxRecDepth 16384

open Idealize.ShloMosaic

noncomputable section

namespace Cert.Gat

variable [Cert.Pre_finite_inputs_all_pairs.Facts] [Cert.ReferenceIdeal.Facts]

/-- The reference's result, entry by entry, is the attention layer of the specification, when the
precondition holds of its arguments. -/
theorem reference_value (x : Feat) (W : Mat) (aS aD b : Vect) (E : IVec Cert.ReferenceIdeal.S2x4032 32)
    (h : Cert.Pre_finite_inputs_all_pairs.fn (F := Ideal) x W aS aD b E = fun _ => 1#1)
    (i : Cert.ReferenceIdeal.S256x64x250.Idx) :
    Cert.ReferenceIdeal.Read.val_main_v77 (F := Ideal) x W aS aD b E i
      = out x W aS aD b ⟨64 * (i 0).val + (i 1).val, by
          have h0 : (i 0).val < 256 := (i 0).isLt
          have h1 : (i 1).val < 64 := (i 1).isLt
          omega⟩ (i 2) := by
  obtain ⟨hx, hW, hS, hD, hE⟩ := Pre.split x W aS aD b E h
  exact Ref.value hx hW hS hD ⟨Pre.tail_eq E hE, Pre.head_eq E hE⟩ b i

end Cert.Gat
-- ==== Proof.lean ====
/-
  The certificate: the frames of the three programs, and the equality of what the idealised kernel and the idealised
  reference leave in the result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference ends with its arguments as they were and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference leave the same array. -/
theorem same_result : Cert.algebraic_KernelIdeal_ReferenceIdeal_pre_finite_inputs_all_pairs
    (hKernelIdeal := Cert.KernelIdeal.Gen.facts) (hReferenceIdeal := Cert.ReferenceIdeal.Gen.facts)
    (hPre_finite_inputs_all_pairs := Cert.Gat.Pre.facts) := by
  intro m g m' g' hpre hargs
  haveI := Cert.Gat.Pre.facts
  refine ⟨Cert.Gat.Kernel.result m, Cert.Gat.Kernel.run m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v77_eq]
  obtain ⟨h0, h1, h2, h3, h4, h5⟩ := hargs c
  rw [h0, h1, h2, h3, h4, h5]
  funext i
  exact Cert.Gat.reference_value _ _ _ _ _ _ (hpre c) i

/-- Everything the certificate claims. -/
theorem claim : Cert.Claim :=
  ⟨Cert.Kernel.Gen.facts, Cert.KernelIdeal.Gen.facts, Cert.ReferenceIdeal.Gen.facts, Cert.Gat.Pre.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
